-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x3072 : Shape := ⟨3, ![2, 6144, 3072]⟩
abbrev S3072x16384 : Shape := ⟨2, ![3072, 16384]⟩
abbrev S16384 : Shape := ⟨1, ![16384]⟩
abbrev S2x6144x16384 : Shape := ⟨3, ![2, 6144, 16384]⟩
abbrev S12288x3072 : Shape := ⟨2, ![12288, 3072]⟩
abbrev S1x16384 : Shape := ⟨2, ![1, 16384]⟩
abbrev S12288x16384 : Shape := ⟨2, ![12288, 16384]⟩
abbrev S12288x1 : Shape := ⟨2, ![12288, 1]⟩
abbrev S128x3072 : Shape := ⟨2, ![128, 3072]⟩
abbrev S1x2048 : Shape := ⟨2, ![1, 2048]⟩
abbrev S128x2048 : Shape := ⟨2, ![128, 2048]⟩
abbrev S128x1 : Shape := ⟨2, ![128, 1]⟩
abbrev S128x16384 : Shape := ⟨2, ![128, 16384]⟩
abbrev S128x128 : Shape := ⟨2, ![128, 128]⟩
abbrev S128 : Shape := ⟨1, ![128]⟩
abbrev S3072x2048 : Shape := ⟨2, ![3072, 2048]⟩
abbrev S1x128 : Shape := ⟨2, ![1, 128]⟩

abbrev nBuf : Space → Nat
  | .hbm => 14
  | .vmem => 24
  | .smem => 0
  | _ => 0

abbrev bufTy : (tb : Table) → Fin (tcTables nBuf tb) → BufTy
  | .hbm, ⟨0, _⟩ => ⟨S2x6144x3072, .bf16⟩
  | .hbm, ⟨1, _⟩ => ⟨S3072x16384, .fp8e4m3⟩
  | .hbm, ⟨2, _⟩ => ⟨S16384, .f32⟩
  | .hbm, ⟨3, _⟩ => ⟨S2x6144x16384, .bf16⟩
  | .hbm, ⟨4, _⟩ => ⟨S16384, .bf16⟩
  | .hbm, ⟨5, _⟩ => ⟨S12288x3072, .bf16⟩
  | .hbm, ⟨6, _⟩ => ⟨S1x16384, .f32⟩
  | .hbm, ⟨7, _⟩ => ⟨S12288x16384, .bf16⟩
  | .hbm, ⟨8, _⟩ => ⟨S1x16384, .bf16⟩
  | .hbm, ⟨9, _⟩ => ⟨S12288x16384, .bf16⟩
  | .hbm, ⟨10, _⟩ => ⟨S12288x3072, .fp8e4m3⟩
  | .hbm, ⟨11, _⟩ => ⟨S12288x1, .f32⟩
  | .hbm, ⟨12, _⟩ => ⟨S12288x16384, .fp8e4m3⟩
  | .hbm, ⟨13, _⟩ => ⟨S12288x1, .f32⟩
  | .local _ .vmem, ⟨0, _⟩ => ⟨S128x3072, .bf16⟩
  | .local _ .vmem, ⟨1, _⟩ => ⟨S128x3072, .bf16⟩
  | .local _ .vmem, ⟨2, _⟩ => ⟨S3072x16384, .fp8e4m3⟩
  | .local _ .vmem, ⟨3, _⟩ => ⟨S1x2048, .f32⟩
  | .local _ .vmem, ⟨4, _⟩ => ⟨S1x2048, .f32⟩
  | .local _ .vmem, ⟨5, _⟩ => ⟨S128x2048, .bf16⟩
  | .local _ .vmem, ⟨6, _⟩ => ⟨S128x2048, .bf16⟩
  | .local _ .vmem, ⟨7, _⟩ => ⟨S1x2048, .bf16⟩
  | .local _ .vmem, ⟨8, _⟩ => ⟨S1x2048, .bf16⟩
  | .local _ .vmem, ⟨9, _⟩ => ⟨S128x2048, .bf16⟩
  | .local _ .vmem, ⟨10, _⟩ => ⟨S128x2048, .bf16⟩
  | .local _ .vmem, ⟨11, _⟩ => ⟨S128x3072, .fp8e4m3⟩
  | .local _ .vmem, ⟨12, _⟩ => ⟨S128x3072, .fp8e4m3⟩
  | .local _ .vmem, ⟨13, _⟩ => ⟨S128x1, .f32⟩
  | .local _ .vmem, ⟨14, _⟩ => ⟨S128x1, .f32⟩
  | .local _ .vmem, ⟨15, _⟩ => ⟨S128x2048, .fp8e4m3⟩
  | .local _ .vmem, ⟨16, _⟩ => ⟨S128x2048, .fp8e4m3⟩
  | .local _ .vmem, ⟨17, _⟩ => ⟨S128x1, .f32⟩
  | .local _ .vmem, ⟨18, _⟩ => ⟨S128x1, .f32⟩
  | .local _ .vmem, ⟨19, _⟩ => ⟨S128x16384, .bf16⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | _, _ => ⟨S2x6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![97, 8], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_cond3 (i : grid0.Coords) : BitVec 1 :=
  let arg0 : BitVec 32 := BitVec.ofNat 32 (i 0).val
  let c0_i32_4 : BitVec 32 := 0#32
  let v12 : BitVec 1 := Scalar.cmpi .eq arg0 c0_i32_4
  let v13 : BitVec 32 := Scalar.extui v12
  let c0_i32_5 : BitVec 32 := 0#32
  let v14 : BitVec 1 := Scalar.cmpi .ne v13 c0_i32_5
  v14

def k0_off1 (i : grid0.Coords) : Fin 2 → Nat :=
  let c0_12 : Index := 0#32
  let arg1 : BitVec 32 := BitVec.ofNat 32 (i 1).val
  let c2048_i32 : BitVec 32 := 2048#32
  let v0 : BitVec 32 := Scalar.muli arg1 c2048_i32
  let v1 : BitVec 32 := v0
  let v25 : Index := Scalar.indexCast v1
  ![0, v25.toNat]
def k0_off2 (i : grid0.Coords) : Fin 2 → Nat :=
  let c0_21 : Index := 0#32
  let arg1 : BitVec 32 := BitVec.ofNat 32 (i 1).val
  let c2048_i32 : BitVec 32 := 2048#32
  let v0 : BitVec 32 := Scalar.muli arg1 c2048_i32
  let v1 : BitVec 32 := v0
  let v42 : Index := Scalar.indexCast v1
  ![0, v42.toNat]
def k0_cond4 (i : grid0.Coords) : BitVec 1 :=
  let arg0 : BitVec 32 := BitVec.ofNat 32 (i 0).val
  let c0_i32_6 : BitVec 32 := 0#32
  let v15 : BitVec 1 := Scalar.cmpi .sgt arg0 c0_i32_6
  let c96_i32_7 : BitVec 32 := 96#32
  let v16 : BitVec 1 := Scalar.cmpi .slt arg0 c96_i32_7
  let v17 : BitVec 1 := Scalar.andi v15 v16
  let v18 : BitVec 32 := Scalar.extui v17
  let c0_i32_8 : BitVec 32 := 0#32
  let v19 : BitVec 1 := Scalar.cmpi .ne v18 c0_i32_8
  v19

def k0_off3 (i : grid0.Coords) (c0_i32_14 : BitVec 32) : Fin 2 → Nat :=
  let c0_15 : Index := 0#32
  let arg1 : BitVec 32 := BitVec.ofNat 32 (i 1).val
  let c2048_i32 : BitVec 32 := 2048#32
  let v0 : BitVec 32 := Scalar.muli arg1 c2048_i32
  let v1 : BitVec 32 := v0
  let v25 : BitVec 32 := Scalar.addi v1 c0_i32_14
  let v26 : Index := Scalar.indexCast v25
  ![0, v26.toNat]
def k0_off4 (i : grid0.Coords) : Fin 2 → Nat :=
  let c0_113 : Index := 0#32
  let arg1 : BitVec 32 := BitVec.ofNat 32 (i 1).val
  let c2048_i32 : BitVec 32 := 2048#32
  let v0 : BitVec 32 := Scalar.muli arg1 c2048_i32
  let v1 : BitVec 32 := v0
  let v299 : Index := Scalar.indexCast v1
  ![0, v299.toNat]
def k0_off5 (i : grid0.Coords) : Fin 2 → Nat :=
  let c0_123 : Index := 0#32
  let arg1 : BitVec 32 := BitVec.ofNat 32 (i 1).val
  let c2048_i32 : BitVec 32 := 2048#32
  let v0 : BitVec 32 := Scalar.muli arg1 c2048_i32
  let v1 : BitVec 32 := v0
  let v316 : Index := Scalar.indexCast v1
  ![0, v316.toNat]
def k0_cond5 (i : grid0.Coords) : BitVec 1 :=
  let arg0 : BitVec 32 := BitVec.ofNat 32 (i 0).val
  let c96_i32_9 : BitVec 32 := 96#32
  let v20 : BitVec 1 := Scalar.cmpi .eq arg0 c96_i32_9
  let v21 : BitVec 32 := Scalar.extui v20
  let c0_i32_10 : BitVec 32 := 0#32
  let v22 : BitVec 1 := Scalar.cmpi .ne v21 c0_i32_10
  v22

def k0_off6 (i : grid0.Coords) (c0_i32_14 : BitVec 32) : Fin 2 → Nat :=
  let c0_15 : Index := 0#32
  let arg1 : BitVec 32 := BitVec.ofNat 32 (i 1).val
  let c2048_i32 : BitVec 32 := 2048#32
  let v0 : BitVec 32 := Scalar.muli arg1 c2048_i32
  let v1 : BitVec 32 := v0
  let v25 : BitVec 32 := Scalar.addi v1 c0_i32_14
  let v26 : Index := Scalar.indexCast v25
  ![0, v26.toNat]
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let arg0 : BitVec 32 := BitVec.ofNat 32 (i 0).val
  let c96_i32 : BitVec 32 := 96#32
  let v8 : BitVec 1 := Scalar.cmpi .slt arg0 c96_i32
  let v9 : BitVec 1 := Scalar.andi v7 v8
  let v10 : BitVec 32 := Scalar.extui v9
  let c0_i32_3 : BitVec 32 := 0#32
  let v11 : BitVec 1 := Scalar.cmpi .ne v10 c0_i32_3
  v11

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .sgt arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c96_i32 : BitVec 32 := 96#32
  let v1 : BitVec 1 := Scalar.cmpi .eq arg0 c96_i32
  let c7_i32 : BitVec 32 := 7#32
  let v2 : BitVec 32 := Scalar.select v1 c7_i32 arg1
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c96_i32 : BitVec 32 := 96#32
  let v1 : BitVec 1 := Scalar.cmpi .eq arg0 c96_i32
  let c7_i32 : BitVec 32 := 7#32
  let v2 : BitVec 32 := Scalar.select v1 c7_i32 arg1
  let c0_i32 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x6144x3072 : Shape := ⟨3, ![2, 6144, 3072]⟩
abbrev S3072x16384 : Shape := ⟨2, ![3072, 16384]⟩
abbrev S16384 : Shape := ⟨1, ![16384]⟩
abbrev S2x6144x16384 : Shape := ⟨3, ![2, 6144, 16384]⟩
abbrev S12288x3072 : Shape := ⟨2, ![12288, 3072]⟩
abbrev S1x16384 : Shape := ⟨2, ![1, 16384]⟩
abbrev S12288x16384 : Shape := ⟨2, ![12288, 16384]⟩
abbrev S12288x1 : Shape := ⟨2, ![12288, 1]⟩
abbrev S12288 : Shape := ⟨1, ![12288]⟩

abbrev nBuf : Space → Nat
  | .hbm => 14
  | .vmem => 10
  | .smem => 0
  | _ => 0

abbrev bufTy : (tb : Table) → Fin (tcTables nBuf tb) → BufTy
  | .hbm, ⟨0, _⟩ => ⟨S2x6144x3072, .bf16⟩
  | .hbm, ⟨1, _⟩ => ⟨S3072x16384, .fp8e4m3⟩
  | .hbm, ⟨2, _⟩ => ⟨S16384, .f32⟩
  | .hbm, ⟨3, _⟩ => ⟨S2x6144x16384, .bf16⟩
  | .hbm, ⟨4, _⟩ => ⟨S16384, .bf16⟩
  | .hbm, ⟨5, _⟩ => ⟨S12288x3072, .bf16⟩
  | .hbm, ⟨6, _⟩ => ⟨S1x16384, .f32⟩
  | .hbm, ⟨7, _⟩ => ⟨S12288x16384, .bf16⟩
  | .hbm, ⟨8, _⟩ => ⟨S1x16384, .bf16⟩
  | .hbm, ⟨9, _⟩ => ⟨S12288x16384, .bf16⟩
  | .hbm, ⟨10, _⟩ => ⟨S12288x3072, .fp8e4m3⟩
  | .hbm, ⟨11, _⟩ => ⟨S12288x1, .f32⟩
  | .hbm, ⟨12, _⟩ => ⟨S12288x16384, .fp8e4m3⟩
  | .hbm, ⟨13, _⟩ => ⟨S12288x1, .f32⟩
  | .local _ .vmem, ⟨0, _⟩ => ⟨S12288x3072, .bf16⟩
  | .local _ .vmem, ⟨1, _⟩ => ⟨S3072x16384, .fp8e4m3⟩
  | .local _ .vmem, ⟨2, _⟩ => ⟨S1x16384, .f32⟩
  | .local _ .vmem, ⟨3, _⟩ => ⟨S12288x16384, .bf16⟩
  | .local _ .vmem, ⟨4, _⟩ => ⟨S1x16384, .bf16⟩
  | .local _ .vmem, ⟨5, _⟩ => ⟨S12288x16384, .bf16⟩
  | .local _ .vmem, ⟨6, _⟩ => ⟨S12288x3072, .fp8e4m3⟩
  | .local _ .vmem, ⟨7, _⟩ => ⟨S12288x1, .f32⟩
  | .local _ .vmem, ⟨8, _⟩ => ⟨S12288x16384, .fp8e4m3⟩
  | .local _ .vmem, ⟨9, _⟩ => ⟨S12288x1, .f32⟩
  | _, _ => ⟨S2x6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x16384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Vals.lean ====
module

public import proofs.«01_k».proof.Proof.Gen.Kernel.Skeleton
public import Idealize.ShloMosaic.Lib.WritesUnit
public import Idealize.ShloMosaic.Lib.VecWindow
public import Idealize.ShloMosaic.Lib.Pointwise.Index

/-! What one grid point computes, as plain functions of the contents of the blocks it sees: the
row quantiser, the projection of one column tile, the row statistics and the normalised codes. -/

@[expose] public section

noncomputable section

namespace Cert.Kernel.K

open Cert.Kernel Cert.Kernel.Gen
open Idealize.ShloMosaic Idealize.ShloMosaic.VecWindow

variable {F : FTy → Type} [FloatOps F]

/-- The contents of the fifteen blocks the body sees at a point: the five inputs, the five outputs and the five scratch buffers. -/
structure St (F : FTy → Type) where
  x : Vec F S128x3072 .bf16
  w : Vec F S3072x16384 .fp8e4m3
  ws : Vec F S1x2048 .f32
  res : Vec F S128x2048 .bf16
  g : Vec F S1x2048 .bf16
  ro : Vec F S128x2048 .bf16
  xc : Vec F S128x3072 .fp8e4m3
  xs : Vec F S128x1 .f32
  yc : Vec F S128x2048 .fp8e4m3
  ys : Vec F S128x1 .f32
  rb : Vec F S128x16384 .bf16
  ssq : Vec F S128x128 .f32
  amx : Vec F S128x128 .f32
  inv : Vec F S128x128 .f32
  rs : Vec F S128x128 .f32

/-- Column tile `n` of the weight lies inside it. -/
theorem inbW (n : Fin 8) : ∀ a, (![0, 2048 * n.val] : Fin 2 → ℕ) a + S3072x2048.size a ≤ S3072x16384.size a := by
  revert n; decide

/-- Chunk `k` of column tile `n` lies inside the row buffer. -/
theorem inbR (n : Fin 8) (k : Fin 16) : ∀ a, (![0, 2048 * n.val + 128 * k.val] : Fin 2 → ℕ) a + S128x128.size a ≤ S128x16384.size a := by
  revert n k; decide +kernel

/-- Chunk `k` of a tile of gains lies inside it. -/
theorem inbG (k : Fin 16) : ∀ a, (![0, 128 * k.val] : Fin 2 → ℕ) a + S1x128.size a ≤ S1x2048.size a := by
  revert k; decide

/-- Chunk `k` of a tile of codes lies inside it. -/
theorem inbY (k : Fin 16) : ∀ a, (![0, 128 * k.val] : Fin 2 → ℕ) a + S128x128.size a ≤ S128x2048.size a := by
  revert k; decide

/-- The scale of each row of `x`. -/
def xsOf (x : Vec F S128x3072 .bf16) : Vec F S128x1 .f32 := k0_pay76 (k0_pay45 x) (k0_pay62 x)

/-- The codes of `x`. -/
def xcOf (x : Vec F S128x3072 .bf16) : Vec F S128x3072 .fp8e4m3 :=
  k0_pay77 (k0_pay44 x) (k0_pay45 x) (k0_pay59 x) (k0_pay61 x) (k0_pay62 x) (k0_pay63 x)

/-- The scale of each row of the normalised rows, of the accumulated squares and magnitudes. -/
def ysOf (ssq amx : Vec F S128x128 .f32) : Vec F S128x1 .f32 := k0_pay42 (k0_pay12 ssq amx) (k0_pay26 ssq amx)

/-- The inverse scale of each row, along the lanes. -/
def invOf (ssq amx : Vec F S128x128 .f32) : Vec F S128x128 .f32 :=
  k0_pay2 (k0_pay43 (k0_pay12 ssq amx) (k0_pay23 ssq amx) (k0_pay25 ssq amx) (k0_pay26 ssq amx) (Scalar.ofBits .f32 0x2F800000#32))

/-- The reciprocal root mean square of each row, along the lanes. -/
def rsOf (ssq : Vec F S128x128 .f32) : Vec F S128x128 .f32 := k0_pay1 (k0_pay11 ssq)

/-- Columns `2048 n … 2048 n + 2047` of the weight. -/
def wcols (w : Vec F S3072x16384 .fp8e4m3) (n : Fin 8) : Vec F S3072x2048 .fp8e4m3 :=
  window w ![0, 2048 * n.val] S3072x2048.size (inbW n)

/-- Chunk `k` of column tile `n` of the row buffer. -/
def rchunk (rb : Vec F S128x16384 .bf16) (n : Fin 8) (k : Fin 16) : Vec F S128x128 .bf16 :=
  window rb ![0, 2048 * n.val + 128 * k.val] S128x128.size (inbR n k)

/-- Chunk `k` of a tile of gains. -/
def gchunk (g : Vec F S1x2048 .bf16) (k : Fin 16) : Vec F S1x128 .bf16 :=
  window g ![0, 128 * k.val] S1x128.size (inbG k)

/-- The projected tile: codes times weight columns, scaled by row and by column, plus the residual. -/
def newOf (xc : Vec F S128x3072 .fp8e4m3) (w : Vec F S3072x2048 .fp8e4m3) (xs : Vec F S128x1 .f32) (ws : Vec F S1x2048 .f32)
    (res : Vec F S128x2048 .bf16) : Vec F S128x2048 .bf16 := k0_pay127 xc w xs ws res

/-- Chunk `k` of the projected tile, widened. -/
def nchunk (new : Vec F S128x2048 .bf16) (k : Fin 16) : FVec F S128x128 .f32 :=
  extf .f32 (extractStridedSlice S128x128 ![0, 128 * k.val] new ⟨rfl, fun a => inbY k a⟩ : FVec F S128x128 .bf16) bitsLt_bf16_f32

/-- The accumulated squares after a tile. -/
def ssqOf (s : Vec F S128x128 .f32) (new : Vec F S128x2048 .bf16) : Vec F S128x128 .f32 :=
  ([0, 1, 2, 3, 4, 5, 6, 7, 8, 9, 10, 11, 12, 13, 14, 15] : List (Fin 16)).foldl
    (fun acc k => addf acc (mulf (nchunk new k) (nchunk new k))) s

/-- The accumulated magnitudes after a tile, the gains given by chunk. -/
def amxFold (s : Vec F S128x128 .f32) (new : Vec F S128x2048 .bf16) (gs : Fin 16 → Vec F S1x128 .bf16) : Vec F S128x128 .f32 :=
  ([0, 1, 2, 3, 4, 5, 6, 7, 8, 9, 10, 11, 12, 13, 14, 15] : List (Fin 16)).foldl
    (fun acc k => maximumf acc (absf (mulf (nchunk new k) (broadcastTo S128x128 (extf .f32 (gs k) bitsLt_bf16_f32) broadcasts_S1x128_S128x128)))) s

/-- The accumulated magnitudes after a tile. -/
def amxOf (s : Vec F S128x128 .f32) (new : Vec F S128x2048 .bf16) (g : Vec F S1x2048 .bf16) : Vec F S128x128 .f32 :=
  amxFold s new (gchunk g)

/-- The chunk a column of a tile lies in. -/
def chunkOf (y : S128x2048.Idx) : Fin 16 := ⟨(y 1).val / 128, by have h : (y 1).val < 2048 := (y 1).isLt; omega⟩

/-- Its place within that chunk. -/
def laneOf (y : S128x2048.Idx) : S128x128.Idx := ix2 (⟨(y 0).val, (y 0).isLt⟩ : Fin 128) (⟨(y 1).val % 128, by omega⟩ : Fin 128)

/-- The normalised codes of column tile `n`. -/
def ycOf (rs inv : Vec F S128x128 .f32) (rb : Vec F S128x16384 .bf16) (g : Vec F S1x2048 .bf16) (n : Fin 8) : Vec F S128x2048 .fp8e4m3 :=
  fun y => k0_pay106 rs inv (rchunk rb n (chunkOf y)) (gchunk g (chunkOf y)) (laneOf y)

/-- Finalise: the previous row block's scales from its accumulated statistics. -/
def stF (s : St F) : St F := { s with rs := rsOf s.ssq, inv := invOf s.ssq s.amx, ys := ysOf s.ssq s.amx }

/-- Quantise the row block of `x`, and clear the statistics. -/
def stQ (s : St F) : St F := { s with xc := xcOf s.x, xs := xsOf s.x, ssq := k0_pay3, amx := k0_pay4 }

/-- Normalise the previous row block's column tile. -/
def stN (n : Fin 8) (s : St F) : St F := { s with yc := ycOf s.rs s.inv s.rb s.g n }

/-- The column tile the projection step computes. -/
def St.new (s : St F) (n : Fin 8) : Vec F S128x2048 .bf16 := newOf s.xc (wcols s.w n) s.xs s.ws s.res

/-- Project: the row block's next column tile, kept and added to the statistics. -/
def stP (n : Fin 8) (s : St F) : St F :=
  { s with ro := s.new n, rb := put s.rb ![0, 2048 * n.val] S128x2048.size (s.new n), ssq := ssqOf s.ssq (s.new n), amx := amxOf s.amx (s.new n) s.g }

end Cert.Kernel.K

end
-- ==== Proof.K.Traj.lean ====
module

public import proofs.«01_k».proof.Proof.K.Vals

/-! What the blocks hold after every grid point, as plain functions of the blocks staged in: point `t` is column tile `t % 8`
of row block `t / 8`. The row buffer always holds, tile by tile, the newest projection of that column; the statistics are
those of the tiles projected so far. -/

@[expose] public section

noncomputable section

namespace Cert.Kernel.K

open Cert.Kernel Cert.Kernel.Gen
open Idealize.ShloMosaic Idealize.ShloMosaic.VecWindow

variable {F : FTy → Type} [FloatOps F]

/-- The blocks staged in at each point. -/
structure Blocks (F : FTy → Type) where
  x : ℕ → Vec F S128x3072 .bf16
  w : ℕ → Vec F S3072x16384 .fp8e4m3
  ws : ℕ → Vec F S1x2048 .f32
  res : ℕ → Vec F S128x2048 .bf16
  g : ℕ → Vec F S1x2048 .bf16

/-- The column tile of a point. -/
def nt (t : ℕ) : Fin 8 := ⟨t % 8, Nat.mod_lt _ (by decide)⟩

/-- Column tile `n` lies inside the row buffer. -/
theorem inbT (n : Fin 8) : ∀ a, (![0, 2048 * n.val] : Fin 2 → ℕ) a + S128x2048.size a ≤ S128x16384.size a := by
  revert n; decide

/-- Column tile `n` of the row buffer. -/
def rtile (rb : Vec F S128x16384 .bf16) (n : Fin 8) : Vec F S128x2048 .bf16 :=
  window rb ![0, 2048 * n.val] S128x2048.size (inbT n)

/-- Chunk `k` of a tile. -/
def tchunk (T : Vec F S128x2048 .bf16) (k : Fin 16) : Vec F S128x128 .bf16 :=
  window T ![0, 128 * k.val] S128x128.size (inbY k)

/-- A chunk of the row buffer is a chunk of its tile. -/
theorem rchunk_eq (rb : Vec F S128x16384 .bf16) (n : Fin 8) (k : Fin 16) : rchunk rb n k = tchunk (rtile rb n) k := by
  funext y
  refine congrArg rb (funext fun a => Fin.ext ?_)
  match a with
  | ⟨0, _⟩ => show 0 + 1 * (y 0).val = 0 + 1 * (0 + 1 * (y 0).val); omega
  | ⟨1, _⟩ => show 2048 * n.val + 128 * k.val + 1 * (y 1).val = 2048 * n.val + 1 * (128 * k.val + 1 * (y 1).val); omega

/-- The normalised codes of a tile. -/
def ycTile (rs inv : Vec F S128x128 .f32) (T : Vec F S128x2048 .bf16) (g : Vec F S1x2048 .bf16) : Vec F S128x2048 .fp8e4m3 :=
  fun y => k0_pay106 rs inv (tchunk T (chunkOf y)) (gchunk g (chunkOf y)) (laneOf y)

/-- The normalised codes read the row buffer in their own tile only. -/
theorem ycOf_eq (rs inv : Vec F S128x128 .f32) (rb : Vec F S128x16384 .bf16) (g : Vec F S1x2048 .bf16) (n : Fin 8) :
    ycOf rs inv rb g n = ycTile rs inv (rtile rb n) g := by
  funext y; unfold ycOf ycTile; rw [rchunk_eq]

/-- The tile just kept reads back. -/
theorem rtile_put (rb : Vec F S128x16384 .bf16) (n : Fin 8) (T : Vec F S128x2048 .bf16) :
    rtile (put rb ![0, 2048 * n.val] S128x2048.size T) n = T := window_put_same rb _ _ (inbT n) T

/-- The other tiles stay. -/
theorem rtile_put_ne (rb : Vec F S128x16384 .bf16) (n j : Fin 8) (h : j ≠ n) (T : Vec F S128x2048 .bf16) :
    rtile (put rb ![0, 2048 * n.val] S128x2048.size T) j = rtile rb j :=
  window_put_of_disjoint rb _ _ _ _ (inbT j) T (1 : Fin 2) (by
    have : j.val ≠ n.val := fun e => h (Fin.ext e)
    show 2048 * j.val + 2048 ≤ 2048 * n.val ∨ 2048 * n.val + 2048 ≤ 2048 * j.val
    omega)

variable (B : Blocks F)

/-- The codes of row block `m`. -/
def XC (m : ℕ) : Vec F S128x3072 .fp8e4m3 := xcOf (B.x (8 * m))
/-- Its scales. -/
def XS (m : ℕ) : Vec F S128x1 .f32 := xsOf (B.x (8 * m))
/-- The tile projected at point `t`. -/
def NEW (t : ℕ) : Vec F S128x2048 .bf16 := newOf (XC B (t / 8)) (wcols (B.w t) (nt t)) (XS B (t / 8)) (B.ws t) (B.res t)
/-- The sums of squares of row block `m` after `k` tiles. -/
def SSQ (m : ℕ) : ℕ → Vec F S128x128 .f32
  | 0 => k0_pay3
  | k + 1 => ssqOf (SSQ m k) (NEW B (8 * m + k))
/-- The magnitudes of row block `m` after `k` tiles. -/
def AMX (m : ℕ) : ℕ → Vec F S128x128 .f32
  | 0 => k0_pay4
  | k + 1 => amxOf (AMX m k) (NEW B (8 * m + k)) (B.g (8 * m + k))
/-- The reciprocal root mean squares of row block `m`. -/
def RS (m : ℕ) : Vec F S128x128 .f32 := rsOf (SSQ B m 8)
/-- Its inverse scales. -/
def INV (m : ℕ) : Vec F S128x128 .f32 := invOf (SSQ B m 8) (AMX B m 8)
/-- Its scales. -/
def YS (m : ℕ) : Vec F S128x1 .f32 := ysOf (SSQ B m 8) (AMX B m 8)
/-- The normalised codes stored at point `t`: those of the tile projected eight points before. -/
def YC (t : ℕ) : Vec F S128x2048 .fp8e4m3 := ycTile (RS B (t / 8 - 1)) (INV B (t / 8 - 1)) (NEW B (t - 8)) (B.g t)

/-- The finalising and quantising steps of point `t`. -/
def head (t : ℕ) (s : St F) : St F :=
  if t % 8 = 0 ∧ t < 768 then stQ (if t % 8 = 0 ∧ 8 ≤ t then stF s else s) else (if t % 8 = 0 ∧ 8 ≤ t then stF s else s)

/-- All the steps of point `t`. -/
def stepAt (t : ℕ) (s : St F) : St F :=
  if t < 768 then stP (nt t) (if 8 ≤ t then stN (nt t) (head t s) else head t s) else (if 8 ≤ t then stN (nt t) (head t s) else head t s)

/-- What the scratch buffers hold when point `t` begins. -/
structure Inv (t : ℕ) (s : St F) : Prop where
  cur : ∀ j : Fin 8, t < 768 → j.val < t % 8 → rtile s.rb j = NEW B (8 * (t / 8) + j.val)
  prev : ∀ j : Fin 8, 8 ≤ t → t < 776 → (t < 768 → t % 8 ≤ j.val) → rtile s.rb j = NEW B (8 * (t / 8 - 1) + j.val)
  ssq : t < 768 → t % 8 ≠ 0 → s.ssq = SSQ B (t / 8) (t % 8)
  amx : t < 768 → t % 8 ≠ 0 → s.amx = AMX B (t / 8) (t % 8)
  fssq : t % 8 = 0 → 8 ≤ t → t < 776 → s.ssq = SSQ B (t / 8 - 1) 8
  famx : t % 8 = 0 → 8 ≤ t → t < 776 → s.amx = AMX B (t / 8 - 1) 8
  rs : 8 ≤ t → t < 776 → t % 8 ≠ 0 → s.rs = RS B (t / 8 - 1)
  inv : 8 ≤ t → t < 776 → t % 8 ≠ 0 → s.inv = INV B (t / 8 - 1)

/-- What the blocks hold when point `t` begins: the inputs their blocks, and past a row block's first point the codes and
scales quantised there. -/
structure Pre (t : ℕ) (s : St F) : Prop extends Inv B t s where
  x : s.x = B.x t
  w : s.w = B.w t
  ws : s.ws = B.ws t
  res : s.res = B.res t
  g : s.g = B.g t
  xc : t < 768 → t % 8 ≠ 0 → s.xc = XC B (t / 8)
  xs : t < 768 → t % 8 ≠ 0 → s.xs = XS B (t / 8)

/-- After the finalising and quantising steps the codes, the statistics and the scales are the point's. -/
structure Mid (t : ℕ) (s s' : St F) : Prop where
  x : s'.x = s.x
  w : s'.w = s.w
  ws : s'.ws = s.ws
  res : s'.res = s.res
  g : s'.g = s.g
  ro : s'.ro = s.ro
  yc : s'.yc = s.yc
  rb : s'.rb = s.rb
  xc : t < 768 → s'.xc = XC B (t / 8)
  xs : t < 768 → s'.xs = XS B (t / 8)
  xc' : ¬ (t % 8 = 0 ∧ t < 768) → s'.xc = s.xc
  xs' : ¬ (t % 8 = 0 ∧ t < 768) → s'.xs = s.xs
  ys : t % 8 = 0 → 8 ≤ t → s'.ys = YS B (t / 8 - 1)
  ys' : ¬ (t % 8 = 0 ∧ 8 ≤ t) → s'.ys = s.ys
  ssq : t < 768 → s'.ssq = SSQ B (t / 8) (t % 8)
  amx : t < 768 → s'.amx = AMX B (t / 8) (t % 8)
  rs : 8 ≤ t → s'.rs = RS B (t / 8 - 1)
  inv : 8 ≤ t → s'.inv = INV B (t / 8 - 1)

theorem mid (t : ℕ) (ht : t < 776) (s : St F) (h : Pre B t s) : Mid B t s (head t s) := by
  unfold head
  by_cases h0 : t % 8 = 0
  · have hx : 8 * (t / 8) = t := by omega
    have exc : xcOf s.x = XC B (t / 8) := by rw [h.x]; unfold XC; rw [hx]
    have exs : xsOf s.x = XS B (t / 8) := by rw [h.x]; unfold XS; rw [hx]
    by_cases h1 : t < 768
    · rw [if_pos ⟨h0, h1⟩]
      by_cases h2 : 8 ≤ t
      · rw [if_pos ⟨h0, h2⟩]
        have e1 := h.fssq h0 h2 ht
        have e2 := h.famx h0 h2 ht
        exact ⟨rfl, rfl, rfl, rfl, rfl, rfl, rfl, rfl, fun _ => exc, fun _ => exs, fun k => absurd ⟨h0, h1⟩ k, fun k => absurd ⟨h0, h1⟩ k,
          fun _ _ => by show ysOf s.ssq s.amx = _; rw [e1, e2]; rfl, fun k => absurd ⟨h0, h2⟩ k, fun _ => by rw [h0]; rfl, fun _ => by rw [h0]; rfl,
          fun _ => by show rsOf s.ssq = _; rw [e1]; rfl, fun _ => by show invOf s.ssq s.amx = _; rw [e1, e2]; rfl⟩
      · rw [if_neg (fun k => h2 k.2)]
        exact ⟨rfl, rfl, rfl, rfl, rfl, rfl, rfl, rfl, fun _ => exc, fun _ => exs, fun k => absurd ⟨h0, h1⟩ k, fun k => absurd ⟨h0, h1⟩ k,
          fun _ k => absurd k h2, fun _ => rfl, fun _ => by rw [h0]; rfl, fun _ => by rw [h0]; rfl, fun k => absurd k h2, fun k => absurd k h2⟩
    · have h2 : 8 ≤ t := by omega
      rw [if_neg (fun k => h1 k.2), if_pos ⟨h0, h2⟩]
      have e1 := h.fssq h0 h2 ht
      have e2 := h.famx h0 h2 ht
      exact ⟨rfl, rfl, rfl, rfl, rfl, rfl, rfl, rfl, fun k => absurd k h1, fun k => absurd k h1, fun _ => rfl, fun _ => rfl,
        fun _ _ => by show ysOf s.ssq s.amx = _; rw [e1, e2]; rfl, fun k => absurd ⟨h0, h2⟩ k, fun k => absurd k h1, fun k => absurd k h1,
        fun _ => by show rsOf s.ssq = _; rw [e1]; rfl, fun _ => by show invOf s.ssq s.amx = _; rw [e1, e2]; rfl⟩
  · rw [if_neg (fun k => h0 k.1), if_neg (fun k => h0 k.1)]
    exact ⟨rfl, rfl, rfl, rfl, rfl, rfl, rfl, rfl, fun k => h.xc k h0, fun k => h.xs k h0, fun _ => rfl, fun _ => rfl,
      fun k => absurd k h0, fun _ => rfl, fun k => h.ssq k h0, fun k => h.amx k h0, fun k => h.rs k ht h0, fun k => h.inv k ht h0⟩

/-- What point `t` leaves: the scratch buffers as the next point finds them, the inputs as they were, and each output stored
with its value or left alone. -/
structure Post (t : ℕ) (s s' : St F) : Prop where
  next : Inv B (t + 1) s'
  x : s'.x = s.x
  w : s'.w = s.w
  ws : s'.ws = s.ws
  res : s'.res = s.res
  g : s'.g = s.g
  ro : t < 768 → s'.ro = NEW B t
  ro' : ¬ t < 768 → s'.ro = s.ro
  xc : t < 768 → s'.xc = XC B (t / 8)
  xs : t < 768 → s'.xs = XS B (t / 8)
  xc' : ¬ (t % 8 = 0 ∧ t < 768) → s'.xc = s.xc
  xs' : ¬ (t % 8 = 0 ∧ t < 768) → s'.xs = s.xs
  yc : 8 ≤ t → s'.yc = YC B t
  yc' : ¬ 8 ≤ t → s'.yc = s.yc
  ys : t % 8 = 0 → 8 ≤ t → s'.ys = YS B (t / 8 - 1)
  ys' : ¬ (t % 8 = 0 ∧ 8 ≤ t) → s'.ys = s.ys

/-- The normalising step: only the codes change, to those of the tile projected eight points before. -/
theorem norm_yc (t : ℕ) (ht : t < 776) (s : St F) (h : Pre B t s) (s' : St F) (hm : Mid B t s s') (h8 : 8 ≤ t) :
    (stN (nt t) s').yc = YC B t := by
  show ycOf s'.rs s'.inv s'.rb s'.g (nt t) = _
  rw [ycOf_eq, hm.rs h8, hm.inv h8, hm.rb, hm.g, h.g, h.prev (nt t) h8 ht (fun _ => Nat.le_refl _)]
  unfold YC
  rw [show 8 * (t / 8 - 1) + (nt t).val = t - 8 from by show 8 * (t / 8 - 1) + t % 8 = t - 8; omega]

/-- The tile the projection computes is the point's. -/
theorem proj_new (t : ℕ) (s : St F) (h : Pre B t s) (s' : St F) (hm : Mid B t s s') (h1 : t < 768) : s'.new (nt t) = NEW B t := by
  unfold St.new NEW
  rw [hm.xc h1, hm.xs h1, hm.w, hm.ws, hm.res, h.w, h.ws, h.res]

/-- The scratch buffers after a point that projects. -/
theorem next_proj (t : ℕ) (s : St F) (h : Pre B t s) (s' : St F) (hm : Mid B t s s') (h1 : t < 768) : Inv B (t + 1) (stP (nt t) s') := by
  have en := proj_new B t s h s' hm h1
  have erb : (stP (nt t) s').rb = put s.rb ![0, 2048 * (nt t).val] S128x2048.size (NEW B t) := by
    show put s'.rb _ _ (s'.new (nt t)) = _; rw [en, hm.rb]
  have essq : (stP (nt t) s').ssq = SSQ B (t / 8) (t % 8 + 1) := by
    show ssqOf s'.ssq (s'.new (nt t)) = _
    rw [en, hm.ssq h1]; show _ = ssqOf _ (NEW B (8 * (t / 8) + t % 8)); rw [Nat.div_add_mod]
  have eamx : (stP (nt t) s').amx = AMX B (t / 8) (t % 8 + 1) := by
    show amxOf s'.amx (s'.new (nt t)) s'.g = _
    rw [en, hm.amx h1, hm.g, h.g]; show _ = amxOf _ (NEW B (8 * (t / 8) + t % 8)) (B.g (8 * (t / 8) + t % 8)); rw [Nat.div_add_mod]
  have tile : ∀ j : Fin 8, j.val = t % 8 → rtile (stP (nt t) s').rb j = NEW B (8 * (t / 8) + j.val) := fun j hj => by
    have : j = nt t := Fin.ext hj
    subst this
    rw [erb, rtile_put, hj, Nat.div_add_mod]
  have other : ∀ j : Fin 8, j.val ≠ t % 8 → rtile (stP (nt t) s').rb j = rtile s.rb j := fun j hj => by
    rw [erb, rtile_put_ne _ _ _ (fun e => hj (congrArg Fin.val e))]
  refine ⟨fun j k1 k2 => ?_, fun j k1 k2 k3 => ?_, fun k1 k2 => ?_, fun k1 k2 => ?_, fun k1 k2 k3 => ?_, fun k1 k2 k3 => ?_, fun k1 k2 k3 => ?_, fun k1 k2 k3 => ?_⟩
  · have e : (t + 1) / 8 = t / 8 := by omega
    rw [e]
    by_cases hj : j.val = t % 8
    · exact tile j hj
    · rw [other j hj]; exact h.cur j h1 (by omega)
  · by_cases hj : j.val = t % 8
    · have e : (t + 1) / 8 - 1 = t / 8 := by
        have := j.isLt
        by_cases h7 : t + 1 < 768
        · have := k3 h7; omega
        · omega
      rw [e]; exact tile j hj
    · rw [other j hj]
      by_cases h7 : t % 8 = 7
      · have e : (t + 1) / 8 - 1 = t / 8 := by omega
        have := j.isLt
        rw [e]; exact h.cur j h1 (by omega)
      · have e : (t + 1) / 8 - 1 = t / 8 - 1 := by omega
        rw [e]; exact h.prev j (by omega) (by omega) (fun _ => by have := k3 (by omega); omega)
  · rw [essq, show (t + 1) / 8 = t / 8 from by omega, show (t + 1) % 8 = t % 8 + 1 from by omega]
  · rw [eamx, show (t + 1) / 8 = t / 8 from by omega, show (t + 1) % 8 = t % 8 + 1 from by omega]
  · rw [essq, show (t + 1) / 8 - 1 = t / 8 from by omega, show t % 8 + 1 = 8 from by omega]
  · rw [eamx, show (t + 1) / 8 - 1 = t / 8 from by omega, show t % 8 + 1 = 8 from by omega]
  · show s'.rs = _
    rw [hm.rs (by omega), show (t + 1) / 8 - 1 = t / 8 - 1 from by omega]
  · show s'.inv = _
    rw [hm.inv (by omega), show (t + 1) / 8 - 1 = t / 8 - 1 from by omega]

/-- The scratch buffers after a point of the drain. -/
theorem next_drain (t : ℕ) (s : St F) (h : Pre B t s) (s' : St F) (hm : Mid B t s s') (h1 : ¬ t < 768) (ht : t < 776) : Inv B (t + 1) s' := by
  refine ⟨fun j k1 => absurd k1 (by omega), fun j k1 k2 k3 => ?_, fun k1 => absurd k1 (by omega), fun k1 => absurd k1 (by omega),
    fun k1 k2 k3 => absurd k3 (by omega), fun k1 k2 k3 => absurd k3 (by omega), fun k1 k2 k3 => ?_, fun k1 k2 k3 => ?_⟩
  · rw [hm.rb, show (t + 1) / 8 - 1 = t / 8 - 1 from by omega]; exact h.prev j (by omega) ht (fun k => absurd k h1)
  · rw [hm.rs (by omega), show (t + 1) / 8 - 1 = t / 8 - 1 from by omega]
  · rw [hm.inv (by omega), show (t + 1) / 8 - 1 = t / 8 - 1 from by omega]

/-- One point. -/
theorem step_post (t : ℕ) (ht : t < 776) (s : St F) (h : Pre B t s) : Post B t s (stepAt t s) := by
  have hm := mid B t ht s h
  unfold stepAt
  generalize head t s = s' at hm
  by_cases h1 : t < 768
  · rw [if_pos h1]
    by_cases h8 : 8 ≤ t
    · rw [if_pos h8]
      have e := norm_yc B t ht s h s' hm h8
      have en : (stN (nt t) s').new (nt t) = NEW B t := proj_new B t s h s' hm h1
      have ni := next_proj B t s h s' hm h1
      exact ⟨⟨ni.cur, ni.prev, ni.ssq, ni.amx, ni.fssq, ni.famx, ni.rs, ni.inv⟩, hm.x, hm.w, hm.ws, hm.res, hm.g, fun _ => en, fun k => absurd h1 k,
        hm.xc, hm.xs, hm.xc', hm.xs', fun _ => e, fun k => absurd h8 k, hm.ys, hm.ys'⟩
    · rw [if_neg h8]
      exact ⟨next_proj B t s h s' hm h1, hm.x, hm.w, hm.ws, hm.res, hm.g, fun _ => proj_new B t s h s' hm h1, fun k => absurd h1 k,
        hm.xc, hm.xs, hm.xc', hm.xs', fun k => absurd k h8, fun _ => hm.yc, hm.ys, hm.ys'⟩
  · have h8 : 8 ≤ t := by omega
    rw [if_neg h1, if_pos h8]
    have ni := next_drain B t s h s' hm h1 ht
    exact ⟨⟨ni.cur, ni.prev, ni.ssq, ni.amx, ni.fssq, ni.famx, ni.rs, ni.inv⟩, hm.x, hm.w, hm.ws, hm.res, hm.g, fun k => absurd k h1, fun _ => hm.ro,
      hm.xc, hm.xs, hm.xc', hm.xs', fun _ => norm_yc B t ht s h s' hm h8, fun k => absurd h8 k, hm.ys, hm.ys'⟩

end Cert.Kernel.K

end
-- ==== Proof.K.Facts.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.WritesUnit
public import Idealize.ShloMosaic.Lib.VecWindow

/-! The grid's points in closed form: which branches a point takes, which outputs it stores, when their blocks are
written back, and where their buffers still hold what an earlier point left. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row-block coordinate of a point. -/
theorem co0 (t : Fin cfg0.N) : (grid0.coords t 0).val = t.val / 8 := by
  have ht : t.val < 776 := Nat.lt_of_lt_of_eq t.isLt N_0
  have e : (grid0.coords t 0).val = t.val / 8 % 97 := Pipeline.Grid.coords_val t 0 (by decide) rfl
  rw [e]; omega

/-- The column-tile coordinate of a point. -/
theorem co1 (t : Fin cfg0.N) : (grid0.coords t 1).val = t.val % 8 := by
  have e : (grid0.coords t 1).val = t.val / 1 % 8 := Pipeline.Grid.coords_val t 1 (by decide) rfl
  rw [e]; omega

/-- A point finalises at the first column of every row block but the first; -/
theorem hcond1 : ∀ t : Fin cfg0.N, k0_cond1 (grid0.coords t) = 1#1 ↔ t.val % 8 = 0 ∧ 8 ≤ t.val := by decide +kernel

/-- it quantises at the first column of every row block but the drain; -/
theorem hcond2 : ∀ t : Fin cfg0.N, k0_cond2 (grid0.coords t) = 1#1 ↔ t.val % 8 = 0 ∧ t.val < 768 := by decide +kernel

/-- it projects only in the first row block; -/
theorem hcond3 : ∀ t : Fin cfg0.N, k0_cond3 (grid0.coords t) = 1#1 ↔ t.val < 8 := by decide +kernel

/-- it normalises and projects in the middle ones; -/
theorem hcond4 : ∀ t : Fin cfg0.N, k0_cond4 (grid0.coords t) = 1#1 ↔ 8 ≤ t.val ∧ t.val < 768 := by decide +kernel

/-- it normalises only in the drain. -/
theorem hcond5 : ∀ t : Fin cfg0.N, k0_cond5 (grid0.coords t) = 1#1 ↔ 768 ≤ t.val := by decide +kernel

/-- The points that store nothing into output 5. -/
theorem idle5 : ∀ t : Fin cfg0.N, cfg0.idle 5 (grid0.coords t) = decide (768 ≤ t.val) := by decide +kernel

/-- The points after which output 5's block is written back. -/
theorem flush5 : ∀ t : Fin cfg0.N, (cfg0.win 5).flush t = decide (t.val < 767 ∨ t.val = 775) := fun t => by
  rw [Window.flush_eq_flushF]; revert t; decide +kernel

/-- Where output 5's buffer holds nothing stored since the start or its last write-back. -/
theorem fresh5 (t : Fin cfg0.N) : cfg0.fresh 5 t.val = (fun n => decide (n ≤ 767 ∨ n = 776)) t.val :=
  Pipeline.Cfg.fresh_tab cfg0 5 (fun n => decide (n ≤ 767 ∨ n = 776)) rfl (fun t => by
    have ht : t.val < 776 := Nat.lt_of_lt_of_eq t.isLt N_0
    show decide ((t.val + 1) ≤ 767 ∨ (t.val + 1) = 776) = ((cfg0.win 5).flush t || (cfg0.idle 5 (grid0.coords t) && decide (t.val ≤ 767 ∨ t.val = 776)))
    rw [flush5 t, idle5 t, ← Bool.decide_and, ← Bool.decide_or]
    exact decide_eq_decide.mpr (by omega)) t.val (Nat.le_of_lt t.isLt)

/-- The points that store nothing into output 6. -/
theorem idle6 : ∀ t : Fin cfg0.N, cfg0.idle 6 (grid0.coords t) = decide (¬ (t.val % 8 = 0 ∧ t.val < 768)) := by decide +kernel

/-- The points after which output 6's block is written back. -/
theorem flush6 : ∀ t : Fin cfg0.N, (cfg0.win 6).flush t = decide ((t.val % 8 = 7 ∧ t.val < 760) ∨ t.val = 775) := fun t => by
  rw [Window.flush_eq_flushF]; revert t; decide +kernel

/-- Where output 6's buffer holds nothing stored since the start or its last write-back. -/
theorem fresh6 (t : Fin cfg0.N) : cfg0.fresh 6 t.val = (fun n => decide ((n % 8 = 0 ∧ n ≤ 760) ∨ n = 776)) t.val :=
  Pipeline.Cfg.fresh_tab cfg0 6 (fun n => decide ((n % 8 = 0 ∧ n ≤ 760) ∨ n = 776)) rfl (fun t => by
    have ht : t.val < 776 := Nat.lt_of_lt_of_eq t.isLt N_0
    show decide (((t.val + 1) % 8 = 0 ∧ (t.val + 1) ≤ 760) ∨ (t.val + 1) = 776) = ((cfg0.win 6).flush t || (cfg0.idle 6 (grid0.coords t) && decide ((t.val % 8 = 0 ∧ t.val ≤ 760) ∨ t.val = 776)))
    rw [flush6 t, idle6 t, ← Bool.decide_and, ← Bool.decide_or]
    exact decide_eq_decide.mpr (by omega)) t.val (Nat.le_of_lt t.isLt)

/-- The points that store nothing into output 7. -/
theorem idle7 : ∀ t : Fin cfg0.N, cfg0.idle 7 (grid0.coords t) = decide (¬ (t.val % 8 = 0 ∧ t.val < 768)) := by decide +kernel

/-- The points after which output 7's block is written back. -/
theorem flush7 : ∀ t : Fin cfg0.N, (cfg0.win 7).flush t = decide ((t.val % 8 = 7 ∧ t.val < 760) ∨ t.val = 775) := fun t => by
  rw [Window.flush_eq_flushF]; revert t; decide +kernel

/-- Where output 7's buffer holds nothing stored since the start or its last write-back. -/
theorem fresh7 (t : Fin cfg0.N) : cfg0.fresh 7 t.val = (fun n => decide ((n % 8 = 0 ∧ n ≤ 760) ∨ n = 776)) t.val :=
  Pipeline.Cfg.fresh_tab cfg0 7 (fun n => decide ((n % 8 = 0 ∧ n ≤ 760) ∨ n = 776)) rfl (fun t => by
    have ht : t.val < 776 := Nat.lt_of_lt_of_eq t.isLt N_0
    show decide (((t.val + 1) % 8 = 0 ∧ (t.val + 1) ≤ 760) ∨ (t.val + 1) = 776) = ((cfg0.win 7).flush t || (cfg0.idle 7 (grid0.coords t) && decide ((t.val % 8 = 0 ∧ t.val ≤ 760) ∨ t.val = 776)))
    rw [flush7 t, idle7 t, ← Bool.decide_and, ← Bool.decide_or]
    exact decide_eq_decide.mpr (by omega)) t.val (Nat.le_of_lt t.isLt)

/-- The points that store nothing into output 8. -/
theorem idle8 : ∀ t : Fin cfg0.N, cfg0.idle 8 (grid0.coords t) = decide (t.val < 8) := by decide +kernel

/-- The points after which output 8's block is written back. -/
theorem flush8 : ∀ t : Fin cfg0.N, (cfg0.win 8).flush t = decide (8 ≤ t.val) := fun t => by
  rw [Window.flush_eq_flushF]; revert t; decide +kernel

/-- The points that store nothing into output 9. -/
theorem idle9 : ∀ t : Fin cfg0.N, cfg0.idle 9 (grid0.coords t) = decide (¬ (t.val % 8 = 0 ∧ 8 ≤ t.val)) := by decide +kernel

/-- The points after which output 9's block is written back. -/
theorem flush9 : ∀ t : Fin cfg0.N, (cfg0.win 9).flush t = decide (t.val % 8 = 7 ∧ 8 ≤ t.val) := fun t => by
  rw [Window.flush_eq_flushF]; revert t; decide +kernel

/-- Where output 9's buffer holds nothing stored since the start or its last write-back. -/
theorem fresh9 (t : Fin cfg0.N) : cfg0.fresh 9 t.val = (fun n => decide (n ≤ 8 ∨ n % 8 = 0)) t.val :=
  Pipeline.Cfg.fresh_tab cfg0 9 (fun n => decide (n ≤ 8 ∨ n % 8 = 0)) rfl (fun t => by
    have ht : t.val < 776 := Nat.lt_of_lt_of_eq t.isLt N_0
    show decide ((t.val + 1) ≤ 8 ∨ (t.val + 1) % 8 = 0) = ((cfg0.win 9).flush t || (cfg0.idle 9 (grid0.coords t) && decide (t.val ≤ 8 ∨ t.val % 8 = 0)))
    rw [flush9 t, idle9 t, ← Bool.decide_and, ← Bool.decide_or]
    exact decide_eq_decide.mpr (by omega)) t.val (Nat.le_of_lt t.isLt)

end Cert.Kernel.K

end
-- ==== Proof.K.Held.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.WritesUnit
public import Idealize.ShloMosaic.Lib.VecWindow
public import proofs.«01_k».proof.Proof.K.Vals

/-! The fifteen blocks held at given contents, and what the body's loads and stores leave in them. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

section

/-- The fifteen blocks, held at the contents `s`. -/
def held (c : Dev nD) (arg2 : Memref sig .tc .vmem S128x3072 .bf16) (arg3 : Memref sig .tc .vmem S3072x16384 .fp8e4m3) (arg4 : Memref sig .tc .vmem S1x2048 .f32) (arg5 : Memref sig .tc .vmem S128x2048 .bf16) (arg6 : Memref sig .tc .vmem S1x2048 .bf16) (arg7 : Memref sig .tc .vmem S128x2048 .bf16) (arg8 : Memref sig .tc .vmem S128x3072 .fp8e4m3) (arg9 : Memref sig .tc .vmem S128x1 .f32) (arg10 : Memref sig .tc .vmem S128x2048 .fp8e4m3) (arg11 : Memref sig .tc .vmem S128x1 .f32) (arg12 : Memref sig .tc .vmem S128x16384 .bf16) (arg13 : Memref sig .tc .vmem S128x128 .f32) (arg14 : Memref sig .tc .vmem S128x128 .f32) (arg15 : Memref sig .tc .vmem S128x128 .f32) (arg16 : Memref sig .tc .vmem S128x128 .f32) (s : St F) : sProp 𝕄 :=
  iprop(owns (c : Thread nD τ) arg2 fullShare s.x ∗
    owns (c : Thread nD τ) arg3 fullShare s.w ∗
    owns (c : Thread nD τ) arg4 fullShare s.ws ∗
    owns (c : Thread nD τ) arg5 fullShare s.res ∗
    owns (c : Thread nD τ) arg6 fullShare s.g ∗
    owns (c : Thread nD τ) arg7 fullShare s.ro ∗
    owns (c : Thread nD τ) arg8 fullShare s.xc ∗
    owns (c : Thread nD τ) arg9 fullShare s.xs ∗
    owns (c : Thread nD τ) arg10 fullShare s.yc ∗
    owns (c : Thread nD τ) arg11 fullShare s.ys ∗
    owns (c : Thread nD τ) arg12 fullShare s.rb ∗
    owns (c : Thread nD τ) arg13 fullShare s.ssq ∗
    owns (c : Thread nD τ) arg14 fullShare s.amx ∗
    owns (c : Thread nD τ) arg15 fullShare s.inv ∗
    owns (c : Thread nD τ) arg16 fullShare s.rs)

end

section Reads

variable {κ : Kind} {sp : Space}

/-- The sixteen stores of normalised chunks leave the tile of normalised codes. -/
theorem read_nrm (arg10 : Memref sig κ sp S128x2048 .fp8e4m3) (f : arg10.view.ty.Contents (Elt F)) (arg12 : Memref sig κ sp S128x16384 .bf16)
    (f12 : arg12.view.ty.Contents (Elt F)) (arg6 : Memref sig κ sp S1x2048 .bf16) (f6 : arg6.view.ty.Contents (Elt F)) (n : Fin 8)
    (off : Fin 16 → Fin 2 → ℕ) (hoff : ∀ k, off k = ![0, 2048 * n.val + 128 * k.val])
    (inb : ∀ k a, off k a + S128x128.size a ≤ S128x16384.size a) (rs inv : Vec F S128x128 .f32) :
    arg10.view.read (Elt F) (arg10.view.writes (Elt F) f
      (View.tilePieces (Val := Elt F) (s := S128x2048) (e := .fp8e4m3) S128x128.size (fun k : Fin 16 => ![0, 128 * k.val]) inbY
        (fun k => k0_pay106 rs inv (arg12.view.readAt (Elt F) (Rect.unit (s := S128x16384) (off k) S128x128.size (inb k)).toLoadRect f12)
          (arg6.view.readAt (Elt F) (Rect.unit (s := S1x2048) ![0, 128 * k.val] S1x128.size (inbG k)).toLoadRect f6)) 16 (Nat.le_refl _)))
      = ycOf rs inv (arg12.view.read (Elt F) f12) (arg6.view.read (Elt F) f6) n := by
  funext y
  have h1 : (y 1).val < 2048 := (y 1).isLt
  rw [View.read_tilePieces arg10.view f S128x128.size _ inbY _ 16 (Nat.le_refl _) y (chunkOf y) (chunkOf y).isLt (laneOf y)
    (Fin.forall_fin_two.mpr ⟨(Nat.zero_add _).symm, by
      show (y 1).val = 128 * ((y 1).val / 128) + (y 1).val % 128
      omega⟩) 1 (fun k hk => by
      show (y 1).val < 128 * k.val ∨ 128 * k.val + 128 ≤ (y 1).val
      have : k.val ≠ (y 1).val / 128 := fun h => hk (Fin.ext h)
      omega)]
  rw [View.readAt_unit arg12.view f12 (inb _) (hoff _) (inbR n _), View.readAt_unit arg6.view f6 (inbG _) rfl (inbG _)]
  rfl

/-- A load of sixteenth `k` of the gains. -/
theorem read_gain (arg6 : Memref sig κ sp S1x2048 .bf16) (h : arg6.IsWhole) (g : Vec F S1x2048 .bf16) (k : Fin 16) (o : ℕ) (ho : o = 128 * k.val)
    (inb : ∀ a, (![0, o] : Fin 2 → ℕ) a + S1x128.size a ≤ S1x2048.size a) :
    arg6.view.readAt (Elt F) (Rect.unit (s := S1x2048) ![0, o] S1x128.size inb).toLoadRect (h.unread g) = gchunk g k := by
  subst ho
  exact (View.readAt_unit arg6.view _ inb rfl (inbG k)).trans (by rw [h.read_unread]; rfl)

end Reads

end Cert.Kernel.K

end
-- ==== Proof.K.Pays.lean ====
module

public import proofs.«01_k».proof.Proof.K.Vals
public import Idealize.ShloMosaic.Lib.Pipeline.Value

/-! The values the body's two projection branches store, as they are written out over their statements, are the tile, the
sums of squares and the magnitudes of `Vals`. -/

@[expose] public section

noncomputable section

namespace Cert.Kernel.K

open Cert.Kernel Cert.Kernel.Gen
open Idealize.ShloMosaic Idealize.ShloMosaic.VecWindow

variable {F : FTy → Type} [FloatOps F]

/-- The sums of squares in the first row block. -/
theorem ssq_first (xc : Vec F S128x3072 .fp8e4m3) (w : Vec F S3072x2048 .fp8e4m3) (xs : Vec F S128x1 .f32) (ws : Vec F S1x2048 .f32)
    (res : Vec F S128x2048 .bf16) (s : Vec F S128x128 .f32) :
    k0_pay6 (k0_pay103 (k0_pay78 xc w xs ws res) (k0_pay98 (k0_pay78 xc w xs ws res) (k0_pay90 (k0_pay78 xc w xs ws res) (k0_pay81 xc w xs ws res s)
      (k0_pay84 xc w xs ws res)))) (k0_pay105 (k0_pay78 xc w xs ws res))
      = ssqOf s (k0_pay78 xc w xs ws res) := by
  simp only [k0_pay5, k0_pay6, k0_pay80, k0_pay81, k0_pay83, k0_pay84, k0_pay85, k0_pay86, k0_pay87, k0_pay89, k0_pay90, k0_pay92, k0_pay93, k0_pay94, k0_pay95, k0_pay97, k0_pay98, k0_pay99, k0_pay100, k0_pay101, k0_pay102, k0_pay103, k0_pay105, shapeCast_self]
  generalize k0_pay78 xc w xs ws res = N
  rfl

/-- The sums of squares in a middle row block. -/
theorem ssq_steady (xc : Vec F S128x3072 .fp8e4m3) (w : Vec F S3072x2048 .fp8e4m3) (xs : Vec F S128x1 .f32) (ws : Vec F S1x2048 .f32)
    (res : Vec F S128x2048 .bf16) (s : Vec F S128x128 .f32) :
    k0_pay9 (k0_pay127 xc w xs ws res) (k0_pay153 (k0_pay127 xc w xs ws res) (k0_pay147 (k0_pay127 xc w xs ws res) (k0_pay139 (k0_pay127 xc w xs ws
      res) (k0_pay130 xc w xs ws res s) (k0_pay132 xc w xs ws res))))
      = ssqOf s (k0_pay127 xc w xs ws res) := by
  simp only [k0_pay8, k0_pay9, k0_pay129, k0_pay130, k0_pay132, k0_pay133, k0_pay134, k0_pay135, k0_pay136, k0_pay138, k0_pay139, k0_pay141, k0_pay142, k0_pay143, k0_pay144, k0_pay146, k0_pay147, k0_pay148, k0_pay149, k0_pay150, k0_pay152, k0_pay153, shapeCast_self]
  generalize k0_pay127 xc w xs ws res = N
  rfl

/-- The magnitudes in the first row block. -/
theorem amx_first (xc : Vec F S128x3072 .fp8e4m3) (w : Vec F S3072x2048 .fp8e4m3) (xs : Vec F S128x1 .f32) (ws : Vec F S1x2048 .f32)
    (res : Vec F S128x2048 .bf16) (s : Vec F S128x128 .f32) (gs : Fin 16 → Vec F S1x128 .bf16) :
    k0_pay7 (k0_pay104 (k0_pay78 xc w xs ws res) (k0_pay96 (k0_pay78 xc w xs ws res) (k0_pay88 (k0_pay78 xc w xs ws res) (k0_pay82 xc w xs ws res s
      (gs 0)) (k0_pay83 xc w xs ws res) (gs 1) (gs 2) (gs 3) (gs 4)) (k0_pay91 (k0_pay78 xc w xs ws res) (gs 5)) (gs 6) (gs 7) (gs 8) (gs 9))
      (k0_pay97 (k0_pay78 xc w xs ws res)) (gs 10) (gs 11) (gs 12) (gs 13) (gs 14)) (k0_pay105 (k0_pay78 xc w xs ws res)) (gs 15)
      = amxFold s (k0_pay78 xc w xs ws res) gs := by
  simp only [k0_pay5, k0_pay7, k0_pay80, k0_pay82, k0_pay83, k0_pay85, k0_pay86, k0_pay87, k0_pay88, k0_pay89, k0_pay91, k0_pay92, k0_pay93, k0_pay94, k0_pay95, k0_pay96, k0_pay97, k0_pay99, k0_pay100, k0_pay101, k0_pay102, k0_pay104, k0_pay105, shapeCast_self]
  generalize k0_pay78 xc w xs ws res = N
  rfl

/-- The magnitudes in a middle row block. -/
theorem amx_steady (xc : Vec F S128x3072 .fp8e4m3) (w : Vec F S3072x2048 .fp8e4m3) (xs : Vec F S128x1 .f32) (ws : Vec F S1x2048 .f32)
    (res : Vec F S128x2048 .bf16) (s : Vec F S128x128 .f32) (gs : Fin 16 → Vec F S1x128 .bf16) :
    k0_pay10 (k0_pay127 xc w xs ws res) (k0_pay151 (k0_pay127 xc w xs ws res) (k0_pay145 (k0_pay127 xc w xs ws res) (k0_pay137 (k0_pay127 xc w xs ws
      res) (k0_pay131 xc w xs ws res s (gs 0)) (k0_pay132 xc w xs ws res) (gs 1) (gs 2) (gs 3) (gs 4)) (k0_pay138 (k0_pay127 xc w xs ws res))
      (k0_pay140 (gs 5)) (gs 6) (gs 7) (gs 8) (gs 9)) (k0_pay146 (k0_pay127 xc w xs ws res)) (gs 10) (gs 11) (gs 12) (gs 13)) (k0_pay154 (k0_pay127 xc
      w xs ws res) (gs 14)) (gs 15)
      = amxFold s (k0_pay127 xc w xs ws res) gs := by
  simp only [k0_pay8, k0_pay10, k0_pay129, k0_pay131, k0_pay132, k0_pay133, k0_pay134, k0_pay135, k0_pay136, k0_pay137, k0_pay138, k0_pay140, k0_pay141, k0_pay142, k0_pay143, k0_pay144, k0_pay145, k0_pay146, k0_pay148, k0_pay149, k0_pay150, k0_pay151, k0_pay152, k0_pay154, shapeCast_self]
  generalize k0_pay127 xc w xs ws res = N
  rfl

/-- The tile kept in the row buffer is the tile stored. -/
theorem keep_first (xc : Vec F S128x3072 .fp8e4m3) (w : Vec F S3072x2048 .fp8e4m3) (xs : Vec F S128x1 .f32) (ws : Vec F S1x2048 .f32)
    (res : Vec F S128x2048 .bf16) : k0_pay79 xc w xs ws res = newOf xc w xs ws res := by
  unfold k0_pay79; rw [shapeCast_self]; rfl

/-- The tile kept in the row buffer is the tile stored. -/
theorem keep_steady (xc : Vec F S128x3072 .fp8e4m3) (w : Vec F S3072x2048 .fp8e4m3) (xs : Vec F S128x1 .f32) (ws : Vec F S1x2048 .f32)
    (res : Vec F S128x2048 .bf16) : k0_pay128 xc w xs ws res = newOf xc w xs ws res := by
  unfold k0_pay128; rw [shapeCast_self]; rfl

/-- The first row block's tile is the same function. -/
theorem new_first (xc : Vec F S128x3072 .fp8e4m3) (w : Vec F S3072x2048 .fp8e4m3) (xs : Vec F S128x1 .f32) (ws : Vec F S1x2048 .f32)
    (res : Vec F S128x2048 .bf16) : k0_pay78 xc w xs ws res = newOf xc w xs ws res := rfl

end Cert.Kernel.K

end
-- ==== Proof.K.RunA.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case A of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first point the row block is quantised and its first column tile projected. -/
theorem run_A (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : k0_cond2 i = 1#1) (hc3 : k0_cond3 i = 1#1) (hc4 : ¬ k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stQ s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off1 i) S3072x2048.size inb).toLoadRect (harg3.unread s.w) = wcols s.w n := fun inb => by
    rw [View.readAt_unit arg3.view _ inb ((k0_off1_eq i).trans (by rw [hn])) (inbW n), harg3.read_unread]; rfl
  have e2 := fun inb => (View.readAt_full (Val := Elt F) arg2.view (harg2.unread s.x) (off := ![0, 0]) inb).trans (harg2.read_unread s.x)
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have c8 := fun inb inb' w L => View.readCov_full (Val := Elt F) arg8.view (off := ![0, 0]) (off' := ![0, 0]) inb inb' w L
  have c9 := fun inb inb' w L => View.readCov_full (Val := Elt F) arg9.view (off := ![0, 0]) (off' := ![0, 0]) inb inb' w L
  have c13 := fun inb inb' w L => View.readCov_full (Val := Elt F) arg13.view (off := ![0, 0]) (off' := ![0, 0]) inb inb' w L
  have c14 := fun inb inb' w L => View.readCov_full (Val := Elt F) arg14.view (off := ![0, 0]) (off' := ![0, 0]) inb inb' w L
  simp only [cc0_out_proj_rmsnorm_fp8_eq_skeleton]; unfold cc0_out_proj_rmsnorm_fp8_skel
  simp only [k0_part3_eq_skeleton, k0_part4_eq_skeleton, k0_part5_eq_skeleton, k0_part6_eq_skeleton, k0_part7_eq_skeleton, k0_part8_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e2, e4, e5, c8, c9, c13, c14, ew, View.writes_nil]
    rfl
  isplitl [H8]
  · iexists _; isplitr; swap; · iexact H8
    ipureintro
    refine (View.read_writes_full arg8.view _ _ _ _).trans ?_; sl_open_run; try simp only [e2, e4, e5, c8, c9, c13, c14]
    rfl
  isplitl [H9]
  · iexists _; isplitr; swap; · iexact H9
    ipureintro
    refine (View.read_writes_full arg9.view _ _ _ _).trans ?_; sl_open_run; try simp only [e2, e4, e5, c8, c9, c13, c14]
    rfl
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off2_eq i).trans (by rw [hn]))).trans ?_
    sl_open_run; try simp only [View.writes_nil, e2, e4, e5, c8, c9, c13, c14, ew]
    try rw [harg12.read_unread]
    exact congrArg (put s.rb _ _) (keep_first _ _ _ _ _)
  isplitl [H13]
  · iexists _; isplitr; swap; · iexact H13
    ipureintro
    refine (View.read_writes_full arg13.view _ _ _ _).trans ?_; sl_open_run; try simp only [e2, e4, e5, c8, c9, c13, c14, ew, View.writes_nil]
    exact ssq_first _ _ _ _ _ _
  isplitl [H14]
  · iexists _; isplitr; swap; · iexact H14
    ipureintro
    refine (View.read_writes_full arg14.view _ _ _ _).trans ?_; sl_open_run; try simp only [e2, e4, e5, c8, c9, c13, c14, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_first _ _ _ _ _ _ (gchunk s.g)
  isplitl [H15]
  · iexists _; isplitr; swap; · iexact H15
    ipureintro
    exact harg15.read_unread _
  iexists _; isplitr; swap; · iexact H16
  ipureintro
  exact harg16.read_unread _

end Cert.Kernel.K

end
-- ==== Proof.K.RunB.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case B of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later points of the first row block a column tile is projected. -/
theorem run_B (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : k0_cond3 i = 1#1) (hc4 : ¬ k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n s) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off1 i) S3072x2048.size inb).toLoadRect (harg3.unread s.w) = wcols s.w n := fun inb => by
    rw [View.readAt_unit arg3.view _ inb ((k0_off1_eq i).trans (by rw [hn])) (inbW n), harg3.read_unread]; rfl
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e8 := fun inb => (View.readAt_full (Val := Elt F) arg8.view (harg8.unread s.xc) (off := ![0, 0]) inb).trans (harg8.read_unread s.xc)
  have e9 := fun inb => (View.readAt_full (Val := Elt F) arg9.view (harg9.unread s.xs) (off := ![0, 0]) inb).trans (harg9.read_unread s.xs)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  simp only [cc0_out_proj_rmsnorm_fp8_eq_skeleton]; unfold cc0_out_proj_rmsnorm_fp8_skel
  simp only [k0_part5_eq_skeleton, k0_part6_eq_skeleton, k0_part7_eq_skeleton, k0_part8_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e4, e5, e8, e9, e13, e14, ew, View.writes_nil]
    rfl
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off2_eq i).trans (by rw [hn]))).trans ?_
    sl_open_run; try simp only [View.writes_nil, e4, e5, e8, e9, e13, e14, ew]
    try rw [harg12.read_unread]
    exact congrArg (put s.rb _ _) (keep_first _ _ _ _ _)
  isplitl [H13]
  · iexists _; isplitr; swap; · iexact H13
    ipureintro
    refine (View.read_writes_full arg13.view _ _ _ _).trans ?_; sl_open_run; try simp only [e4, e5, e8, e9, e13, e14, ew, View.writes_nil]
    exact ssq_first _ _ _ _ _ _
  isplitl [H14]
  · iexists _; isplitr; swap; · iexact H14
    ipureintro
    refine (View.read_writes_full arg14.view _ _ _ _).trans ?_; sl_open_run; try simp only [e4, e5, e8, e9, e13, e14, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_first _ _ _ _ _ _ (gchunk s.g)
  isplitl [H15]
  · iexists _; isplitr; swap; · iexact H15
    ipureintro
    exact harg15.read_unread _
  iexists _; isplitr; swap; · iexact H16
  ipureintro
  exact harg16.read_unread _

end Cert.Kernel.K

end
-- ==== Proof.K.RunC.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case C of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first point of a middle row block the previous block is finalised, this one quantised, and a column tile of each normalised and projected. -/
theorem run_C (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : k0_cond1 i = 1#1) (hc2 : k0_cond2 i = 1#1) (hc3 : ¬ k0_cond3 i = 1#1) (hc4 : k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stN n (stQ (stF s)))) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off4 i) S3072x2048.size inb).toLoadRect (harg3.unread s.w) = wcols s.w n := fun inb => by
    rw [View.readAt_unit arg3.view _ inb ((k0_off4_eq i).trans (by rw [hn])) (inbW n), harg3.read_unread]; rfl
  have e2 := fun inb => (View.readAt_full (Val := Elt F) arg2.view (harg2.unread s.x) (off := ![0, 0]) inb).trans (harg2.read_unread s.x)
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have c8 := fun inb inb' w L => View.readCov_full (Val := Elt F) arg8.view (off := ![0, 0]) (off' := ![0, 0]) inb inb' w L
  have c9 := fun inb inb' w L => View.readCov_full (Val := Elt F) arg9.view (off := ![0, 0]) (off' := ![0, 0]) inb inb' w L
  have c13 := fun inb inb' w L => View.readCov_full (Val := Elt F) arg13.view (off := ![0, 0]) (off' := ![0, 0]) inb inb' w L
  have c14 := fun inb inb' w L => View.readCov_full (Val := Elt F) arg14.view (off := ![0, 0]) (off' := ![0, 0]) inb inb' w L
  have c15 := fun inb inb' w L => View.readCov_full (Val := Elt F) arg15.view (off := ![0, 0]) (off' := ![0, 0]) inb inb' w L
  have c16 := fun inb inb' w L => View.readCov_full (Val := Elt F) arg16.view (off := ![0, 0]) (off' := ![0, 0]) inb inb' w L
  simp only [cc0_out_proj_rmsnorm_fp8_eq_skeleton]; unfold cc0_out_proj_rmsnorm_fp8_skel
  simp only [k0_part1_eq_skeleton, k0_part2_eq_skeleton, k0_part3_eq_skeleton, k0_part4_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e2, e4, e5, e13, e14, c8, c9, c13, c14, c15, c16, ew, View.writes_nil]
    rfl
  isplitl [H8]
  · iexists _; isplitr; swap; · iexact H8
    ipureintro
    refine (View.read_writes_full arg8.view _ _ _ _).trans ?_; sl_open_run; try simp only [e2, e4, e5, e13, e14, c8, c9, c13, c14, c15, c16]
    rfl
  isplitl [H9]
  · iexists _; isplitr; swap; · iexact H9
    ipureintro
    refine (View.read_writes_full arg9.view _ _ _ _).trans ?_; sl_open_run; try simp only [e2, e4, e5, e13, e14, c8, c9, c13, c14, c15, c16]
    rfl
  isplitl [H10]
  · iexists _; isplitr; swap; · iexact H10
    ipureintro
    refine (read_nrm arg10 _ arg12 (harg12.unread s.rb) arg6 (harg6.unread s.g) n (fun k => k0_off3 i (BitVec.ofNat 32 (128 * k.val)))
      (fun k => (k0_off3_eq i k).trans (by rw [hn])) (k0_off3_inb i hc4) _ _).trans ?_
    rw [harg12.read_unread, harg6.read_unread]
    sl_open_run; try simp only [e2, e4, e5, e13, e14, c8, c9, c13, c14, c15, c16]
    rfl
  isplitl [H11]
  · iexists _; isplitr; swap; · iexact H11
    ipureintro
    refine (View.read_writes_full arg11.view _ _ _ _).trans ?_; sl_open_run; try simp only [e2, e4, e5, e13, e14, c8, c9, c13, c14, c15, c16]
    rfl
  isplitl [H12]
  · iexists _; isplitr; swap; · iexact H12
    ipureintro
    refine (View.read_writes_cons_put arg12.view _ _ _ [] ((k0_off5_eq i).trans (by rw [hn]))).trans ?_
    sl_open_run; try simp only [View.writes_nil, e2, e4, e5, e13, e14, c8, c9, c13, c14, c15, c16, ew]
    try rw [harg12.read_unread]
    exact congrArg (put s.rb _ _) (keep_steady _ _ _ _ _)
  isplitl [H13]
  · iexists _; isplitr; swap; · iexact H13
    ipureintro
    refine (View.read_writes_full arg13.view _ _ _ _).trans ?_; sl_open_run; try simp only [e2, e4, e5, e13, e14, c8, c9, c13, c14, c15, c16, ew, View.writes_nil]
    exact ssq_steady _ _ _ _ _ _
  isplitl [H14]
  · iexists _; isplitr; swap; · iexact H14
    ipureintro
    refine (View.read_writes_full arg14.view _ _ _ _).trans ?_; sl_open_run; try simp only [e2, e4, e5, e13, e14, c8, c9, c13, c14, c15, c16, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_steady _ _ _ _ _ _ (gchunk s.g)
  isplitl [H15]
  · iexists _; isplitr; swap; · iexact H15
    ipureintro
    refine (View.read_writes_full arg15.view _ _ _ _).trans ?_; sl_open_run; try simp only [e2, e4, e5, e13, e14, c8, c9, c13, c14, c15, c16]
    rfl
  iexists _; isplitr; swap; · iexact H16
  ipureintro
  refine (View.read_writes_full arg16.view _ _ _ _).trans ?_; sl_open_run; try simp only [e2, e4, e5, e13, e14, c8, c9, c13, c14, c15, c16]
  rfl

end Cert.Kernel.K

end
-- ==== Proof.K.RunD.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case D of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later points of a middle row block a column tile of the previous block is normalised and one of this block projected. -/
theorem run_D (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : ¬ k0_cond3 i = 1#1) (hc4 : k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stN n s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off4 i) S3072x2048.size inb).toLoadRect (harg3.unread s.w) = wcols s.w n := fun inb => by
    rw [View.readAt_unit arg3.view _ inb ((k0_off4_eq i).trans (by rw [hn])) (inbW n), harg3.read_unread]; rfl
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e8 := fun inb => (View.readAt_full (Val := Elt F) arg8.view (harg8.unread s.xc) (off := ![0, 0]) inb).trans (harg8.read_unread s.xc)
  have e9 := fun inb => (View.readAt_full (Val := Elt F) arg9.view (harg9.unread s.xs) (off := ![0, 0]) inb).trans (harg9.read_unread s.xs)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have e15 := fun inb => (View.readAt_full (Val := Elt F) arg15.view (harg15.unread s.inv) (off := ![0, 0]) inb).trans (harg15.read_unread s.inv)
  have e16 := fun inb => (View.readAt_full (Val := Elt F) arg16.view (harg16.unread s.rs) (off := ![0, 0]) inb).trans (harg16.read_unread s.rs)
  simp only [cc0_out_proj_rmsnorm_fp8_eq_skeleton]; unfold cc0_out_proj_rmsnorm_fp8_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e4, e5, e8, e9, e13, e14, e15, e16, ew, View.writes_nil]
    rfl
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off3 i (BitVec.ofNat 32 (128 * k.val)))
      (fun k => (k0_off3_eq i k).trans (by rw [hn])) (k0_off3_inb i hc4) _ _).trans ?_
    rw [harg12.read_unread, harg6.read_unread]
    sl_open_run; try simp only [e4, e5, e8, e9, e13, e14, e15, e16]
    rfl
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off5_eq i).trans (by rw [hn]))).trans ?_
    sl_open_run; try simp only [View.writes_nil, e4, e5, e8, e9, e13, e14, e15, e16, ew]
    try rw [harg12.read_unread]
    exact congrArg (put s.rb _ _) (keep_steady _ _ _ _ _)
  isplitl [H13]
  · iexists _; isplitr; swap; · iexact H13
    ipureintro
    refine (View.read_writes_full arg13.view _ _ _ _).trans ?_; sl_open_run; try simp only [e4, e5, e8, e9, e13, e14, e15, e16, ew, View.writes_nil]
    exact ssq_steady _ _ _ _ _ _
  isplitl [H14]
  · iexists _; isplitr; swap; · iexact H14
    ipureintro
    refine (View.read_writes_full arg14.view _ _ _ _).trans ?_; sl_open_run; try simp only [e4, e5, e8, e9, e13, e14, e15, e16, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_steady _ _ _ _ _ _ (gchunk s.g)
  isplitl [H15]
  · iexists _; isplitr; swap; · iexact H15
    ipureintro
    exact harg15.read_unread _
  iexists _; isplitr; swap; · iexact H16
  ipureintro
  exact harg16.read_unread _

end Cert.Kernel.K

end
-- ==== Proof.K.RunE.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case E of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first drain point the last row block is finalised and its first column tile normalised. -/
theorem run_E (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : k0_cond1 i = 1#1) (hc2 : ¬ k0_cond2 i = 1#1) (hc3 : ¬ k0_cond3 i = 1#1) (hc4 : ¬ k0_cond4 i = 1#1) (hc5 : k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stN n (stF s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have c15 := fun inb inb' w L => View.readCov_full (Val := Elt F) arg15.view (off := ![0, 0]) (off' := ![0, 0]) inb inb' w L
  have c16 := fun inb inb' w L => View.readCov_full (Val := Elt F) arg16.view (off := ![0, 0]) (off' := ![0, 0]) inb inb' w L
  simp only [cc0_out_proj_rmsnorm_fp8_eq_skeleton]; unfold cc0_out_proj_rmsnorm_fp8_skel
  simp only [k0_part1_eq_skeleton, k0_part2_eq_skeleton, k0_part20_eq_skeleton, k0_part21_eq_skeleton, k0_part22_eq_skeleton, k0_part23_eq_skeleton, k0_part24_eq_skeleton, k0_part25_eq_skeleton, k0_part26_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off6 i (BitVec.ofNat 32 (128 * k.val)))
      (fun k => (k0_off6_eq i k).trans (by rw [hn])) (k0_off6_inb i hc5) _ _).trans ?_
    rw [harg12.read_unread, harg6.read_unread]
    sl_open_run; try simp only [e13, e14, c15, c16]
    rfl
  isplitl [H11]
  · iexists _; isplitr; swap; · iexact H11
    ipureintro
    refine (View.read_writes_full arg11.view _ _ _ _).trans ?_; sl_open_run; try simp only [e13, e14, c15, c16]
    rfl
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    refine (View.read_writes_full arg15.view _ _ _ _).trans ?_; sl_open_run; try simp only [e13, e14, c15, c16]
    rfl
  iexists _; isplitr; swap; · iexact H16
  ipureintro
  refine (View.read_writes_full arg16.view _ _ _ _).trans ?_; sl_open_run; try simp only [e13, e14, c15, c16]
  rfl

end Cert.Kernel.K

end
-- ==== Proof.K.RunF.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Held
public import proofs.«01_k».proof.Proof.K.Pays

/-! The body's run in case F of its branches. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later drain points a column tile of the last row block is normalised. -/
theorem run_F (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : ¬ k0_cond3 i = 1#1) (hc4 : ¬ k0_cond4 i = 1#1) (hc5 : k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stN n s) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e15 := fun inb => (View.readAt_full (Val := Elt F) arg15.view (harg15.unread s.inv) (off := ![0, 0]) inb).trans (harg15.read_unread s.inv)
  have e16 := fun inb => (View.readAt_full (Val := Elt F) arg16.view (harg16.unread s.rs) (off := ![0, 0]) inb).trans (harg16.read_unread s.rs)
  simp only [cc0_out_proj_rmsnorm_fp8_eq_skeleton]; unfold cc0_out_proj_rmsnorm_fp8_skel
  simp only [k0_part20_eq_skeleton, k0_part21_eq_skeleton, k0_part22_eq_skeleton, k0_part23_eq_skeleton, k0_part24_eq_skeleton, k0_part25_eq_skeleton, k0_part26_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off6 i (BitVec.ofNat 32 (128 * k.val)))
      (fun k => (k0_off6_eq i k).trans (by rw [hn])) (k0_off6_inb i hc5) _ _).trans ?_
    rw [harg12.read_unread, harg6.read_unread]
    sl_open_run; try simp only [e15, e16]
    rfl
  isplitl [H11]
  · iexists _; isplitr; swap; · iexact H11
    ipureintro
    exact harg11.read_unread _
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  iexists _; isplitr; swap; · iexact H16
  ipureintro
  exact harg16.read_unread _

end Cert.Kernel.K

end
-- ==== Proof.K.RunAll.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.K.Traj
public import proofs.«01_k».proof.Proof.K.Facts
public import proofs.«01_k».proof.Proof.K.RunA
public import proofs.«01_k».proof.Proof.K.RunB
public import proofs.«01_k».proof.Proof.K.RunC
public import proofs.«01_k».proof.Proof.K.RunD
public import proofs.«01_k».proof.Proof.K.RunE
public import proofs.«01_k».proof.Proof.K.RunF

/-! The body's run at any grid point. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At point `t` the body takes the blocks held at `s` to the blocks held at `stepAt t s`. -/
theorem run_all (c : Dev nD) (t : Fin cfg0.N)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stepAt t.val s) -∗ K ⟨⟩))
      ⊢ wp frame (wpE (defs₀ (F := F)) Variants.none c none) E (cc0_out_proj_rmsnorm_fp8 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hN : t.val < 776 := lt_of_lt_of_eq t.isLt (show cfg0.N = 776 from N_0)
  by_cases h8 : 8 ≤ t.val
  · by_cases h768 : t.val < 768
    · by_cases h0 : t.val % 8 = 0
      · rw [show stepAt t.val s = stP (nt t.val) (stN (nt t.val) (stQ (stF s))) from by unfold stepAt head; simp only [h8, h768, h0, and_self, if_true]]
        exact run_C c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
      · rw [show stepAt t.val s = stP (nt t.val) (stN (nt t.val) s) from by unfold stepAt head; simp only [h8, h768, h0, false_and, if_true, if_false]]
        exact run_D c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
    · by_cases h0 : t.val % 8 = 0
      · rw [show stepAt t.val s = stN (nt t.val) (stF s) from by unfold stepAt head; simp only [h8, h768, h0, and_self, and_false, if_true, if_false]]
        exact run_E c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
      · rw [show stepAt t.val s = stN (nt t.val) s from by unfold stepAt head; simp only [h8, h768, h0, false_and, if_true, if_false]]
        exact run_F c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
  · have h768 : t.val < 768 := by omega
    by_cases h0 : t.val % 8 = 0
    · rw [show stepAt t.val s = stP (nt t.val) (stQ s) from by unfold stepAt head; simp only [h8, h768, h0, and_self, and_false, if_true, if_false]]
      exact run_A c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
    · rw [show stepAt t.val s = stP (nt t.val) s from by unfold stepAt head; simp only [h8, h768, h0, false_and, if_true, if_false]]
      exact run_B c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K

end Cert.Kernel.K

end
-- ==== Proof.K.Body.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import Idealize.ShloMosaic.Lib.Claim
public import proofs.«01_k».proof.Proof.K.RunAll

/-! The pipeline's proof data: what every staged block and scratch buffer holds at every grid point, the body's obligation
against it, and the run of the whole program. -/

@[expose] public section

set_option maxRecDepth 16384

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

variable (m : (ℓ : Loc nD τ sig) → Buf (Elt F) ℓ) (ρ : Dev nD → PrngReg)

/-- A grid point by its number. -/
def pt (k : ℕ) : Fin cfg0.N := ⟨k % 776, by rw [show cfg0.N = 776 from N_0]; exact Nat.mod_lt _ (by decide)⟩

theorem pt_val (t : Fin cfg0.N) : pt t.val = t :=
  Fin.ext (Nat.mod_eq_of_lt (lt_of_lt_of_eq t.isLt (show cfg0.N = 776 from N_0)))

/-- The blocks staged in at each point. -/
def blocks (c : Dev nD) : Blocks F where
  x k := iblk m c 0 (pt k)
  w k := iblk m c 1 (pt k)
  ws k := iblk m c 2 (pt k)
  res k := iblk m c 3 (pt k)
  g k := iblk m c 4 (pt k)

/-- The buffer window 0 is staged in at point `t`, and that it is whole. -/
abbrev ms0_0 (t : Fin cfg0.N) : Memref sig .tc .vmem S128x3072 .bf16 := win0_0.stage (cfg0.slots t 0)
abbrev hs0_0 (t : Fin cfg0.N) : (ms0_0 t).IsWhole := hstage0_0 ((cfg0.slots t 0).cast nbuf0_0)
/-- The buffer window 1 is staged in at point `t`, and that it is whole. -/
abbrev ms0_1 (t : Fin cfg0.N) : Memref sig .tc .vmem S3072x16384 .fp8e4m3 := win0_1.stage (cfg0.slots t 1)
abbrev hs0_1 (t : Fin cfg0.N) : (ms0_1 t).IsWhole := hstage0_1 ((cfg0.slots t 1).cast nbuf0_1)
/-- The buffer window 2 is staged in at point `t`, and that it is whole. -/
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
/-- The buffer window 3 is staged in at point `t`, and that it is whole. -/
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
/-- The buffer window 4 is staged in at point `t`, and that it is whole. -/
abbrev ms0_4 (t : Fin cfg0.N) : Memref sig .tc .vmem S1x2048 .bf16 := win0_4.stage (cfg0.slots t 4)
abbrev hs0_4 (t : Fin cfg0.N) : (ms0_4 t).IsWhole := hstage0_4 ((cfg0.slots t 4).cast nbuf0_4)
/-- The buffer window 5 is staged in at point `t`, and that it is whole. -/
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
/-- The buffer window 6 is staged in at point `t`, and that it is whole. -/
abbrev ms0_6 (t : Fin cfg0.N) : Memref sig .tc .vmem S128x3072 .fp8e4m3 := win0_6.stage (cfg0.slots t 6)
abbrev hs0_6 (t : Fin cfg0.N) : (ms0_6 t).IsWhole := hstage0_6 ((cfg0.slots t 6).cast nbuf0_6)
/-- The buffer window 7 is staged in at point `t`, and that it is whole. -/
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
/-- The buffer window 8 is staged in at point `t`, and that it is whole. -/
abbrev ms0_8 (t : Fin cfg0.N) : Memref sig .tc .vmem S128x2048 .fp8e4m3 := win0_8.stage (cfg0.slots t 8)
abbrev hs0_8 (t : Fin cfg0.N) : (ms0_8 t).IsWhole := hstage0_8 ((cfg0.slots t 8).cast nbuf0_8)
/-- The buffer window 9 is staged in at point `t`, and that it is whole. -/
abbrev ms0_9 (t : Fin cfg0.N) : Memref sig .tc .vmem S128x1 .f32 := win0_9.stage (cfg0.slots t 9)
abbrev hs0_9 (t : Fin cfg0.N) : (ms0_9 t).IsWhole := hstage0_9 ((cfg0.slots t 9).cast nbuf0_9)
/-- Scratch buffer 0. -/
abbrev scM0_0 : Memref sig .tc .vmem S128x16384 .bf16 := Memref.whole cc0_scratch0
/-- Scratch buffer 1. -/
abbrev scM0_1 : Memref sig .tc .vmem S128x128 .f32 := Memref.whole cc0_scratch1
/-- Scratch buffer 2. -/
abbrev scM0_2 : Memref sig .tc .vmem S128x128 .f32 := Memref.whole cc0_scratch2
/-- Scratch buffer 3. -/
abbrev scM0_3 : Memref sig .tc .vmem S128x128 .f32 := Memref.whole cc0_scratch3
/-- Scratch buffer 4. -/
abbrev scM0_4 : Memref sig .tc .vmem S128x128 .f32 := Memref.whole cc0_scratch4

/-- The pipeline's own invariant: the scratch buffers at some contents and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The projected tile the buffer holds after point `t`: the last one from point 768 on. -/
def RO (c : Dev nD) (t : ℕ) : Vec F S128x2048 .bf16 := NEW (blocks m c) (min t 767)

/-- The invariant at the start of point `k`. -/
def Phi (c : Dev nD) (k : ℕ) : sProp 𝕄 :=
  iprop(∃ s : St F, ⌜Inv (blocks m c) k s⌝ ∗ (owns (c : Thread nD τ) scM0_0 fullShare s.rb ∗ owns (c : Thread nD τ) scM0_1 fullShare s.ssq ∗ owns (c : Thread nD τ) scM0_2 fullShare s.amx ∗ owns (c : Thread nD τ) scM0_3 fullShare s.inv ∗ owns (c : Thread nD τ) scM0_4 fullShare s.rs) ∗ (∃ r, prngReg c r))

/-- The proof data: the arrays as the region finds them, the blocks after the body at each point, the scratch invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => RO m c t.val
    | ⟨6, _⟩ => XC (blocks m c) (min (t.val / 8) 95)
    | ⟨7, _⟩ => XS (blocks m c) (min (t.val / 8) 95)
    | ⟨8, _⟩ => YC (blocks m c) t.val
    | ⟨9, _⟩ => YS (blocks m c) (t.val / 8 - 1)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = RO m c t.val := by dsimp only [dats]
theorem after0_6 (c : Dev nD) (t : Fin cfg0.N) : (dats m 0 c).after 6 t = XC (blocks m c) (min (t.val / 8) 95) := by dsimp only [dats]
theorem after0_7 (c : Dev nD) (t : Fin cfg0.N) : (dats m 0 c).after 7 t = XS (blocks m c) (min (t.val / 8) 95) := by dsimp only [dats]
theorem after0_8 (c : Dev nD) (t : Fin cfg0.N) : (dats m 0 c).after 8 t = YC (blocks m c) t.val := by dsimp only [dats]
theorem after0_9 (c : Dev nD) (t : Fin cfg0.N) : (dats m 0 c).after 9 t = YS (blocks m c) (t.val / 8 - 1) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer at contents that are the stored ones where the window is live or written back, and what it held where it is
neither, is what the point leaves. -/
theorem owns_leaves (c : Dev nD) (w : Fin cfg0.W) (t : Fin cfg0.N) (d) (v)
    (h1 : cfg0.idle w (cfg0.grid.coords t) = true → (cfg0.win w).flush t = false → v = (dats m 0 c).before w t d)
    (h2 : cfg0.idle w (cfg0.grid.coords t) = false ∨ (cfg0.win w).flush t = true → v = (dats m 0 c).after w t) :
    owns (c : Thread nD τ) ((cfg0.win w).stage (cfg0.slots t w)) fullShare v ⊢ (dats m 0 c).leavesExact w t := by
  unfold Dat.leavesExact
  cases hi : cfg0.idle w (cfg0.grid.coords t) with
  | false => rw [h2 (.inl hi)]; try exact Idealize.SL.BI.Entails.refl _
  | true =>
    cases hf : (cfg0.win w).flush t with
    | true => rw [h2 (.inr hf)]; try exact Idealize.SL.BI.Entails.refl _
    | false =>
      rw [h1 hi hf]
      iintro H; iexists d; iexact H

/-- The buffers that carry: an output idle at a point not fresh keeps what the point before left. -/
theorem carry5 (c : Dev nD) (t : Fin cfg0.N) (h0 : t.val ≠ 0) (hi : cfg0.idle 5 (cfg0.grid.coords t) = true) (hf : cfg0.fresh 5 t.val = false) :
    (dats m 0 c).after 5 t = (dats m 0 c).after 5 ⟨t.val - 1, by omega⟩ := by
  rw [after0_5, after0_5]
  have h := (idle5 t).symm.trans hi
  have := of_decide_eq_true h
  unfold RO
  rw [show min t.val 767 = min (t.val - 1) 767 from by omega]
theorem carry6 (c : Dev nD) (t : Fin cfg0.N) (h0 : t.val ≠ 0) (hi : cfg0.idle 6 (cfg0.grid.coords t) = true) (hf : cfg0.fresh 6 t.val = false) :
    (dats m 0 c).after 6 t = (dats m 0 c).after 6 ⟨t.val - 1, by omega⟩ := by
  rw [after0_6, after0_6]
  have := of_decide_eq_true ((idle6 t).symm.trans hi)
  have := of_decide_eq_false ((fresh6 t).symm.trans hf)
  rw [show min (t.val / 8) 95 = min ((t.val - 1) / 8) 95 from by omega]
theorem carry7 (c : Dev nD) (t : Fin cfg0.N) (h0 : t.val ≠ 0) (hi : cfg0.idle 7 (cfg0.grid.coords t) = true) (hf : cfg0.fresh 7 t.val = false) :
    (dats m 0 c).after 7 t = (dats m 0 c).after 7 ⟨t.val - 1, by omega⟩ := by
  rw [after0_7, after0_7]
  have := of_decide_eq_true ((idle7 t).symm.trans hi)
  have := of_decide_eq_false ((fresh7 t).symm.trans hf)
  rw [show min (t.val / 8) 95 = min ((t.val - 1) / 8) 95 from by omega]
theorem carry9 (c : Dev nD) (t : Fin cfg0.N) (h0 : t.val ≠ 0) (hi : cfg0.idle 9 (cfg0.grid.coords t) = true) (hf : cfg0.fresh 9 t.val = false) :
    (dats m 0 c).after 9 t = (dats m 0 c).after 9 ⟨t.val - 1, by omega⟩ := by
  rw [after0_9, after0_9]
  have := of_decide_eq_true ((idle9 t).symm.trans hi)
  have := of_decide_eq_false ((fresh9 t).symm.trans hf)
  rw [show t.val / 8 - 1 = (t.val - 1) / 8 - 1 from by omega]

/-- What those buffers hold when a point that is not fresh begins. -/
theorem before0_5 (c : Dev nD) (t : Fin cfg0.N) (d) (h : 768 ≤ t.val) : (dats m 0 c).before 5 t d = NEW (blocks m c) 767 := by
  have hN : t.val < 776 := lt_of_lt_of_eq t.isLt (show cfg0.N = 776 from N_0)
  rw [Dat.before_out_traj _ 5 rfl (fun _ _ => rfl) (carry5 m c) t.val t rfl d,
    if_neg (by rw [fresh5 t]; exact Bool.eq_false_iff.mp (decide_eq_false (by omega))), after0_5]
  unfold RO
  rw [show min (t.val - 1) 767 = 767 from by omega]
theorem before0_6 (c : Dev nD) (t : Fin cfg0.N) (d) (h : ¬ (t.val % 8 = 0 ∧ t.val < 768)) :
    (dats m 0 c).before 6 t d = XC (blocks m c) (min (t.val / 8) 95) := by
  have hN : t.val < 776 := lt_of_lt_of_eq t.isLt (show cfg0.N = 776 from N_0)
  rw [Dat.before_out_traj _ 6 rfl (fun _ _ => rfl) (carry6 m c) t.val t rfl d,
    if_neg (by rw [fresh6 t]; exact Bool.eq_false_iff.mp (decide_eq_false (by omega))), after0_6]
  show XC (blocks m c) (min ((t.val - 1) / 8) 95) = _
  rw [show min ((t.val - 1) / 8) 95 = min (t.val / 8) 95 from by omega]
theorem before0_7 (c : Dev nD) (t : Fin cfg0.N) (d) (h : ¬ (t.val % 8 = 0 ∧ t.val < 768)) :
    (dats m 0 c).before 7 t d = XS (blocks m c) (min (t.val / 8) 95) := by
  have hN : t.val < 776 := lt_of_lt_of_eq t.isLt (show cfg0.N = 776 from N_0)
  rw [Dat.before_out_traj _ 7 rfl (fun _ _ => rfl) (carry7 m c) t.val t rfl d,
    if_neg (by rw [fresh7 t]; exact Bool.eq_false_iff.mp (decide_eq_false (by omega))), after0_7]
  show XS (blocks m c) (min ((t.val - 1) / 8) 95) = _
  rw [show min ((t.val - 1) / 8) 95 = min (t.val / 8) 95 from by omega]
theorem before0_9 (c : Dev nD) (t : Fin cfg0.N) (d) (h : t.val % 8 ≠ 0) (h8 : 8 ≤ t.val) :
    (dats m 0 c).before 9 t d = YS (blocks m c) (t.val / 8 - 1) := by
  rw [Dat.before_out_traj _ 9 rfl (fun _ _ => rfl) (carry9 m c) t.val t rfl d,
    if_neg (by rw [fresh9 t]; exact Bool.eq_false_iff.mp (decide_eq_false (by omega))), after0_9]
  show YS (blocks m c) ((t.val - 1) / 8 - 1) = _
  rw [show (t.val - 1) / 8 - 1 = t.val / 8 - 1 from by omega]

/-- The blocks and buffers as point `t` finds them. -/
def found (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s : St F) : St F where
  x := iblk m c 0 t
  w := iblk m c 1 t
  ws := iblk m c 2 t
  res := iblk m c 3 t
  g := iblk m c 4 t
  ro := (dats m 0 c).before 5 t d5
  xc := (dats m 0 c).before 6 t d6
  xs := (dats m 0 c).before 7 t d7
  yc := (dats m 0 c).before 8 t d8
  ys := (dats m 0 c).before 9 t d9
  rb := s.rb
  ssq := s.ssq
  amx := s.amx
  inv := s.inv
  rs := s.rs

/-- They are as the pure step wants them. -/
theorem found_pre (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s : St F) (h : Inv (blocks m c) t.val s) :
    Pre (blocks m c) t.val (found m c t d5 d6 d7 d8 d9 s) where
  cur := h.cur
  prev := h.prev
  ssq := h.ssq
  amx := h.amx
  fssq := h.fssq
  famx := h.famx
  rs := h.rs
  inv := h.inv
  x := by show iblk m c 0 t = iblk m c 0 (pt t.val); rw [pt_val]
  w := by show iblk m c 1 t = iblk m c 1 (pt t.val); rw [pt_val]
  ws := by show iblk m c 2 t = iblk m c 2 (pt t.val); rw [pt_val]
  res := by show iblk m c 3 t = iblk m c 3 (pt t.val); rw [pt_val]
  g := by show iblk m c 4 t = iblk m c 4 (pt t.val); rw [pt_val]
  xc := fun h1 h2 => (before0_6 m c t d6 (fun k => h2 k.1)).trans (by rw [show min (t.val / 8) 95 = t.val / 8 from by omega])
  xs := fun h1 h2 => (before0_7 m c t d7 (fun k => h2 k.1)).trans (by rw [show min (t.val / 8) 95 = t.val / 8 from by omega])

section Leaves

variable (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s s' : St F)
  (hp : Post (blocks m c) t.val (found m c t d5 d6 d7 d8 d9 s) s')
include hp

/-- What the step leaves in each output's buffer is what the proof data say. -/
theorem leaves5 : owns (c : Thread nD τ) (ms0_5 t) fullShare s'.ro ⊢ (dats m 0 c).leavesExact 5 t := by
  have hN : t.val < 776 := lt_of_lt_of_eq t.isLt (show cfg0.N = 776 from N_0)
  refine owns_leaves m c 5 t d5 _ (fun hi hf => ?_) (fun h => ?_)
  · have := of_decide_eq_true ((idle5 t).symm.trans hi)
    exact hp.ro' (by omega)
  · rw [after0_5]; unfold RO
    by_cases h1 : t.val < 768
    · rw [hp.ro h1, show min t.val 767 = t.val from by omega]
    · rw [hp.ro' h1, show min t.val 767 = 767 from by omega]; exact before0_5 m c t d5 (by omega)
theorem leaves6 : owns (c : Thread nD τ) (ms0_6 t) fullShare s'.xc ⊢ (dats m 0 c).leavesExact 6 t := by
  refine owns_leaves m c 6 t d6 _ (fun hi hf => ?_) (fun h => ?_)
  · exact hp.xc' (of_decide_eq_true ((idle6 t).symm.trans hi))
  · rw [after0_6]
    by_cases h1 : t.val < 768
    · rw [hp.xc h1, show min (t.val / 8) 95 = t.val / 8 from by omega]
    · rw [hp.xc' (fun k => h1 k.2)]; exact before0_6 m c t d6 (fun k => h1 k.2)
theorem leaves7 : owns (c : Thread nD τ) (ms0_7 t) fullShare s'.xs ⊢ (dats m 0 c).leavesExact 7 t := by
  refine owns_leaves m c 7 t d7 _ (fun hi hf => ?_) (fun h => ?_)
  · exact hp.xs' (of_decide_eq_true ((idle7 t).symm.trans hi))
  · rw [after0_7]
    by_cases h1 : t.val < 768
    · rw [hp.xs h1, show min (t.val / 8) 95 = t.val / 8 from by omega]
    · rw [hp.xs' (fun k => h1 k.2)]; exact before0_7 m c t d7 (fun k => h1 k.2)
theorem leaves8 : owns (c : Thread nD τ) (ms0_8 t) fullShare s'.yc ⊢ (dats m 0 c).leavesExact 8 t := by
  refine owns_leaves m c 8 t d8 _ (fun hi hf => ?_) (fun h => ?_)
  · have := of_decide_eq_true ((idle8 t).symm.trans hi)
    exact hp.yc' (by omega)
  · have h8 : 8 ≤ t.val := by
      rcases h with h | h
      · have := of_decide_eq_false ((idle8 t).symm.trans h); omega
      · exact of_decide_eq_true ((flush8 t).symm.trans h)
    rw [after0_8, hp.yc h8]
theorem leaves9 : owns (c : Thread nD τ) (ms0_9 t) fullShare s'.ys ⊢ (dats m 0 c).leavesExact 9 t := by
  refine owns_leaves m c 9 t d9 _ (fun hi hf => ?_) (fun h => ?_)
  · exact hp.ys' (of_decide_eq_true ((idle9 t).symm.trans hi))
  · have h8 : 8 ≤ t.val := by
      rcases h with h | h
      · have := of_decide_eq_false ((idle9 t).symm.trans h); omega
      · exact (of_decide_eq_true ((flush9 t).symm.trans h)).2
    rw [after0_9]
    by_cases h1 : t.val % 8 = 0
    · exact hp.ys h1 h8
    · rw [hp.ys' (fun k => h1 k.1)]; exact before0_9 m c t d9 h1 h8

end Leaves

/-- The inputs are left at their blocks. -/
theorem leavesIn (c : Dev nD) (t : Fin cfg0.N) :
    (owns (c : Thread nD τ) (ms0_0 t) fullShare (iblk m c 0 t) ⊢ (dats m 0 c).leavesExact 0 t) ∧ (owns (c : Thread nD τ) (ms0_1 t) fullShare (iblk m c 1 t) ⊢ (dats m 0 c).leavesExact 1 t) ∧ (owns (c : Thread nD τ) (ms0_2 t) fullShare (iblk m c 2 t) ⊢ (dats m 0 c).leavesExact 2 t) ∧ (owns (c : Thread nD τ) (ms0_3 t) fullShare (iblk m c 3 t) ⊢ (dats m 0 c).leavesExact 3 t) ∧ (owns (c : Thread nD τ) (ms0_4 t) fullShare (iblk m c 4 t) ⊢ (dats m 0 c).leavesExact 4 t) := by
  refine ⟨?_, ?_, ?_, ?_, ?_⟩
  · rw [← after0_0 m c t]
  · rw [← after0_1 m c t]
  · rw [← after0_2 m c t]
  · rw [← after0_3 m c t]
  · rw [← after0_4 m c t]

set_option maxHeartbeats 4000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hN : t.val < 776 := lt_of_lt_of_eq t.isLt (show cfg0.N = 776 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨%s, %hs, ⟨S0, S1, S2, S3, S4⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hp := step_post (blocks m c) t.val hN _ (found_pre m c t d5 d6 d7 d8 d9 s hs)
  iapply (run_all c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (found m c t d5 d6 d7 d8 d9 s))
  generalize stepAt t.val (found m c t d5 d6 d7 d8 d9 s) = s' at hp
  unfold held
  isplitl [H0 H1 H2 H3 H4 H5 H6 H7 H8 H9 S0 S1 S2 S3 S4]
  · dsimp only [found]
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    iexact S4
  rw [hp.x, hp.w, hp.ws, hp.res, hp.g]
  iintro ⟨H0, H1, H2, H3, H4, H5, H6, H7, H8, H9, S0, S1, S2, S3, S4⟩
  isplitl [S0 S1 S2 S3 S4 HR]
  · iexists s'
    isplitr
    · ipureintro; exact hp.next
    isplitl [S0 S1 S2 S3 S4]
    · isplitl [S0]
      · iexact S0
      isplitl [S1]
      · iexact S1
      isplitl [S2]
      · iexact S2
      isplitl [S3]
      · iexact S3
      iexact S4
    iexact HR
  isplitl [HO]
  · iexact HO
  isplitl [H0]
  · iapply (leavesIn m c t).1; iexact H0
  isplitl [H1]
  · iapply (leavesIn m c t).2.1; iexact H1
  isplitl [H2]
  · iapply (leavesIn m c t).2.2.1; iexact H2
  isplitl [H3]
  · iapply (leavesIn m c t).2.2.2.1; iexact H3
  isplitl [H4]
  · iapply (leavesIn m c t).2.2.2.2; iexact H4
  isplitl [H5]
  · iapply (leaves5 m c t d5 d6 d7 d8 d9 s s' hp); iexact H5
  isplitl [H6]
  · iapply (leaves6 m c t d5 d6 d7 d8 d9 s s' hp); iexact H6
  isplitl [H7]
  · iapply (leaves7 m c t d5 d6 d7 d8 d9 s s' hp); iexact H7
  isplitl [H8]
  · iapply (leaves8 m c t d5 d6 d7 d8 d9 s s' hp); iexact H8
  iapply (leaves9 m c t d5 d6 d7 d8 d9 s s' hp); iexact H9

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point any scratch contents do. -/
theorem hin (c : Dev nD) : Pipeline.ΦA spec0 c ⊢ (dats m 0 c).Φ 0 := by
  rw [show (dats m 0 c).Φ 0 = Phi m c 0 from rfl, PhiA0_eq]
  unfold Phi
  iintro ⟨⟨⟨%d0, HS0⟩, ⟨%d1, HS1⟩, ⟨%d2, HS2⟩, ⟨%d3, HS3⟩, ⟨%d4, HS4⟩⟩, Hg⟩
  iexists (⟨(blocks m c).x 0, (blocks m c).w 0, (blocks m c).ws 0, (blocks m c).res 0, (blocks m c).g 0, (blocks m c).res 0, XC (blocks m c) 0, XS (blocks m c) 0, YC (blocks m c) 0, YS (blocks m c) 0, d0, d1, d2, d3, d4⟩ : St F)
  isplitr
  · ipureintro
    exact ⟨fun _ _ h => absurd h (by omega), fun _ h => absurd h (by omega), fun _ h => absurd rfl h, fun _ h => absurd rfl h, fun _ h => absurd h (by omega),
      fun _ h => absurd h (by omega), fun h => absurd h (by omega), fun h => absurd h (by omega)⟩
  isplitl [HS0 HS1 HS2 HS3 HS4]
  · isplitl [HS0]
    · iexact HS0
    isplitl [HS1]
    · iexact HS1
    isplitl [HS2]
    · iexact HS2
    isplitl [HS3]
    · iexact HS3
    iexact HS4
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%s, %hs, ⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- Every run of the program ends with each array at what the proof data give and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays' part alone. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.K

end
-- ==== Proof.KI.Vals.lean ====
module

public import proofs.«01_k».proof.Proof.Gen.KernelIdeal.Skeleton
public import Idealize.ShloMosaic.Lib.WritesUnit
public import Idealize.ShloMosaic.Lib.VecWindow
public import Idealize.ShloMosaic.Lib.Pointwise.Index

/-! What one grid point computes, as plain functions of the contents of the blocks it sees: the
row quantiser, the projection of one column tile, the row statistics and the normalised codes. -/

@[expose] public section

noncomputable section

namespace Cert.KernelIdeal.K

open Cert.KernelIdeal Cert.KernelIdeal.Gen
open Idealize.ShloMosaic Idealize.ShloMosaic.VecWindow

variable {F : FTy → Type} [FloatOps F]

/-- The contents of the fifteen blocks the body sees at a point: the five inputs, the five outputs and the five scratch buffers. -/
structure St (F : FTy → Type) where
  x : Vec F S128x3072 .bf16
  w : Vec F S3072x16384 .fp8e4m3
  ws : Vec F S1x2048 .f32
  res : Vec F S128x2048 .bf16
  g : Vec F S1x2048 .bf16
  ro : Vec F S128x2048 .bf16
  xc : Vec F S128x3072 .fp8e4m3
  xs : Vec F S128x1 .f32
  yc : Vec F S128x2048 .fp8e4m3
  ys : Vec F S128x1 .f32
  rb : Vec F S128x16384 .bf16
  ssq : Vec F S128x128 .f32
  amx : Vec F S128x128 .f32
  inv : Vec F S128x128 .f32
  rs : Vec F S128x128 .f32

/-- Column tile `n` of the weight lies inside it. -/
theorem inbW (n : Fin 8) : ∀ a, (![0, 2048 * n.val] : Fin 2 → ℕ) a + S3072x2048.size a ≤ S3072x16384.size a := by
  revert n; decide

/-- Chunk `k` of column tile `n` lies inside the row buffer. -/
theorem inbR (n : Fin 8) (k : Fin 16) : ∀ a, (![0, 2048 * n.val + 128 * k.val] : Fin 2 → ℕ) a + S128x128.size a ≤ S128x16384.size a := by
  revert n k; decide +kernel

/-- Chunk `k` of a tile of gains lies inside it. -/
theorem inbG (k : Fin 16) : ∀ a, (![0, 128 * k.val] : Fin 2 → ℕ) a + S1x128.size a ≤ S1x2048.size a := by
  revert k; decide

/-- Chunk `k` of a tile of codes lies inside it. -/
theorem inbY (k : Fin 16) : ∀ a, (![0, 128 * k.val] : Fin 2 → ℕ) a + S128x128.size a ≤ S128x2048.size a := by
  revert k; decide

/-- The scale of each row of `x`. -/
def xsOf (x : Vec F S128x3072 .bf16) : Vec F S128x1 .f32 := k0_pay76 (k0_pay45 x) (k0_pay62 x)

/-- The codes of `x`. -/
def xcOf (x : Vec F S128x3072 .bf16) : Vec F S128x3072 .fp8e4m3 :=
  k0_pay77 (k0_pay44 x) (k0_pay45 x) (k0_pay59 x) (k0_pay61 x) (k0_pay62 x) (k0_pay63 x)

/-- The scale of each row of the normalised rows, of the accumulated squares and magnitudes. -/
def ysOf (ssq amx : Vec F S128x128 .f32) : Vec F S128x1 .f32 := k0_pay42 (k0_pay12 ssq amx) (k0_pay26 ssq amx)

/-- The inverse scale of each row, along the lanes. -/
def invOf (ssq amx : Vec F S128x128 .f32) : Vec F S128x128 .f32 :=
  k0_pay2 (k0_pay43 (k0_pay12 ssq amx) (k0_pay23 ssq amx) (k0_pay25 ssq amx) (k0_pay26 ssq amx) (Scalar.ofBits .f32 0x2F800000#32))

/-- The reciprocal root mean square of each row, along the lanes. -/
def rsOf (ssq : Vec F S128x128 .f32) : Vec F S128x128 .f32 := k0_pay1 (k0_pay11 ssq)

/-- Columns `2048 n … 2048 n + 2047` of the weight. -/
def wcols (w : Vec F S3072x16384 .fp8e4m3) (n : Fin 8) : Vec F S3072x2048 .fp8e4m3 :=
  window w ![0, 2048 * n.val] S3072x2048.size (inbW n)

/-- Chunk `k` of column tile `n` of the row buffer. -/
def rchunk (rb : Vec F S128x16384 .bf16) (n : Fin 8) (k : Fin 16) : Vec F S128x128 .bf16 :=
  window rb ![0, 2048 * n.val + 128 * k.val] S128x128.size (inbR n k)

/-- Chunk `k` of a tile of gains. -/
def gchunk (g : Vec F S1x2048 .bf16) (k : Fin 16) : Vec F S1x128 .bf16 :=
  window g ![0, 128 * k.val] S1x128.size (inbG k)

/-- The projected tile: codes times weight columns, scaled by row and by column, plus the residual. -/
def newOf (xc : Vec F S128x3072 .fp8e4m3) (w : Vec F S3072x2048 .fp8e4m3) (xs : Vec F S128x1 .f32) (ws : Vec F S1x2048 .f32)
    (res : Vec F S128x2048 .bf16) : Vec F S128x2048 .bf16 := k0_pay127 xc w xs ws res

/-- Chunk `k` of the projected tile, widened. -/
def nchunk (new : Vec F S128x2048 .bf16) (k : Fin 16) : FVec F S128x128 .f32 :=
  extf .f32 (extractStridedSlice S128x128 ![0, 128 * k.val] new ⟨rfl, fun a => inbY k a⟩ : FVec F S128x128 .bf16) bitsLt_bf16_f32

/-- The accumulated squares after a tile. -/
def ssqOf (s : Vec F S128x128 .f32) (new : Vec F S128x2048 .bf16) : Vec F S128x128 .f32 :=
  ([0, 1, 2, 3, 4, 5, 6, 7, 8, 9, 10, 11, 12, 13, 14, 15] : List (Fin 16)).foldl
    (fun acc k => addf acc (mulf (nchunk new k) (nchunk new k))) s

/-- The accumulated magnitudes after a tile, the gains given by chunk. -/
def amxFold (s : Vec F S128x128 .f32) (new : Vec F S128x2048 .bf16) (gs : Fin 16 → Vec F S1x128 .bf16) : Vec F S128x128 .f32 :=
  ([0, 1, 2, 3, 4, 5, 6, 7, 8, 9, 10, 11, 12, 13, 14, 15] : List (Fin 16)).foldl
    (fun acc k => maximumf acc (absf (mulf (nchunk new k) (broadcastTo S128x128 (extf .f32 (gs k) bitsLt_bf16_f32) broadcasts_S1x128_S128x128)))) s

/-- The accumulated magnitudes after a tile. -/
def amxOf (s : Vec F S128x128 .f32) (new : Vec F S128x2048 .bf16) (g : Vec F S1x2048 .bf16) : Vec F S128x128 .f32 :=
  amxFold s new (gchunk g)

/-- The chunk a column of a tile lies in. -/
def chunkOf (y : S128x2048.Idx) : Fin 16 := ⟨(y 1).val / 128, by have h : (y 1).val < 2048 := (y 1).isLt; omega⟩

/-- Its place within that chunk. -/
def laneOf (y : S128x2048.Idx) : S128x128.Idx := ix2 (⟨(y 0).val, (y 0).isLt⟩ : Fin 128) (⟨(y 1).val % 128, by omega⟩ : Fin 128)

/-- The normalised codes of column tile `n`. -/
def ycOf (rs inv : Vec F S128x128 .f32) (rb : Vec F S128x16384 .bf16) (g : Vec F S1x2048 .bf16) (n : Fin 8) : Vec F S128x2048 .fp8e4m3 :=
  fun y => k0_pay106 rs inv (rchunk rb n (chunkOf y)) (gchunk g (chunkOf y)) (laneOf y)

/-- Finalise: the previous row block's scales from its accumulated statistics. -/
def stF (s : St F) : St F := { s with rs := rsOf s.ssq, inv := invOf s.ssq s.amx, ys := ysOf s.ssq s.amx }

/-- Quantise the row block of `x`, and clear the statistics. -/
def stQ (s : St F) : St F := { s with xc := xcOf s.x, xs := xsOf s.x, ssq := k0_pay3, amx := k0_pay4 }

/-- Normalise the previous row block's column tile. -/
def stN (n : Fin 8) (s : St F) : St F := { s with yc := ycOf s.rs s.inv s.rb s.g n }

/-- The column tile the projection step computes. -/
def St.new (s : St F) (n : Fin 8) : Vec F S128x2048 .bf16 := newOf s.xc (wcols s.w n) s.xs s.ws s.res

/-- Project: the row block's next column tile, kept and added to the statistics. -/
def stP (n : Fin 8) (s : St F) : St F :=
  { s with ro := s.new n, rb := put s.rb ![0, 2048 * n.val] S128x2048.size (s.new n), ssq := ssqOf s.ssq (s.new n), amx := amxOf s.amx (s.new n) s.g }

end Cert.KernelIdeal.K

end
-- ==== Proof.KI.Traj.lean ====
module

public import proofs.«01_k».proof.Proof.KI.Vals

/-! What the blocks hold after every grid point, as plain functions of the blocks staged in: point `t` is column tile `t % 8`
of row block `t / 8`. The row buffer always holds, tile by tile, the newest projection of that column; the statistics are
those of the tiles projected so far. -/

@[expose] public section

noncomputable section

namespace Cert.KernelIdeal.K

open Cert.KernelIdeal Cert.KernelIdeal.Gen
open Idealize.ShloMosaic Idealize.ShloMosaic.VecWindow

variable {F : FTy → Type} [FloatOps F]

/-- The blocks staged in at each point. -/
structure Blocks (F : FTy → Type) where
  x : ℕ → Vec F S128x3072 .bf16
  w : ℕ → Vec F S3072x16384 .fp8e4m3
  ws : ℕ → Vec F S1x2048 .f32
  res : ℕ → Vec F S128x2048 .bf16
  g : ℕ → Vec F S1x2048 .bf16

/-- The column tile of a point. -/
def nt (t : ℕ) : Fin 8 := ⟨t % 8, Nat.mod_lt _ (by decide)⟩

/-- Column tile `n` lies inside the row buffer. -/
theorem inbT (n : Fin 8) : ∀ a, (![0, 2048 * n.val] : Fin 2 → ℕ) a + S128x2048.size a ≤ S128x16384.size a := by
  revert n; decide

/-- Column tile `n` of the row buffer. -/
def rtile (rb : Vec F S128x16384 .bf16) (n : Fin 8) : Vec F S128x2048 .bf16 :=
  window rb ![0, 2048 * n.val] S128x2048.size (inbT n)

/-- Chunk `k` of a tile. -/
def tchunk (T : Vec F S128x2048 .bf16) (k : Fin 16) : Vec F S128x128 .bf16 :=
  window T ![0, 128 * k.val] S128x128.size (inbY k)

/-- A chunk of the row buffer is a chunk of its tile. -/
theorem rchunk_eq (rb : Vec F S128x16384 .bf16) (n : Fin 8) (k : Fin 16) : rchunk rb n k = tchunk (rtile rb n) k := by
  funext y
  refine congrArg rb (funext fun a => Fin.ext ?_)
  match a with
  | ⟨0, _⟩ => show 0 + 1 * (y 0).val = 0 + 1 * (0 + 1 * (y 0).val); omega
  | ⟨1, _⟩ => show 2048 * n.val + 128 * k.val + 1 * (y 1).val = 2048 * n.val + 1 * (128 * k.val + 1 * (y 1).val); omega

/-- The normalised codes of a tile. -/
def ycTile (rs inv : Vec F S128x128 .f32) (T : Vec F S128x2048 .bf16) (g : Vec F S1x2048 .bf16) : Vec F S128x2048 .fp8e4m3 :=
  fun y => k0_pay106 rs inv (tchunk T (chunkOf y)) (gchunk g (chunkOf y)) (laneOf y)

/-- The normalised codes read the row buffer in their own tile only. -/
theorem ycOf_eq (rs inv : Vec F S128x128 .f32) (rb : Vec F S128x16384 .bf16) (g : Vec F S1x2048 .bf16) (n : Fin 8) :
    ycOf rs inv rb g n = ycTile rs inv (rtile rb n) g := by
  funext y; unfold ycOf ycTile; rw [rchunk_eq]

/-- The tile just kept reads back. -/
theorem rtile_put (rb : Vec F S128x16384 .bf16) (n : Fin 8) (T : Vec F S128x2048 .bf16) :
    rtile (put rb ![0, 2048 * n.val] S128x2048.size T) n = T := window_put_same rb _ _ (inbT n) T

/-- The other tiles stay. -/
theorem rtile_put_ne (rb : Vec F S128x16384 .bf16) (n j : Fin 8) (h : j ≠ n) (T : Vec F S128x2048 .bf16) :
    rtile (put rb ![0, 2048 * n.val] S128x2048.size T) j = rtile rb j :=
  window_put_of_disjoint rb _ _ _ _ (inbT j) T (1 : Fin 2) (by
    have : j.val ≠ n.val := fun e => h (Fin.ext e)
    show 2048 * j.val + 2048 ≤ 2048 * n.val ∨ 2048 * n.val + 2048 ≤ 2048 * j.val
    omega)

variable (B : Blocks F)

/-- The codes of row block `m`. -/
def XC (m : ℕ) : Vec F S128x3072 .fp8e4m3 := xcOf (B.x (8 * m))
/-- Its scales. -/
def XS (m : ℕ) : Vec F S128x1 .f32 := xsOf (B.x (8 * m))
/-- The tile projected at point `t`. -/
def NEW (t : ℕ) : Vec F S128x2048 .bf16 := newOf (XC B (t / 8)) (wcols (B.w t) (nt t)) (XS B (t / 8)) (B.ws t) (B.res t)
/-- The sums of squares of row block `m` after `k` tiles. -/
def SSQ (m : ℕ) : ℕ → Vec F S128x128 .f32
  | 0 => k0_pay3
  | k + 1 => ssqOf (SSQ m k) (NEW B (8 * m + k))
/-- The magnitudes of row block `m` after `k` tiles. -/
def AMX (m : ℕ) : ℕ → Vec F S128x128 .f32
  | 0 => k0_pay4
  | k + 1 => amxOf (AMX m k) (NEW B (8 * m + k)) (B.g (8 * m + k))
/-- The reciprocal root mean squares of row block `m`. -/
def RS (m : ℕ) : Vec F S128x128 .f32 := rsOf (SSQ B m 8)
/-- Its inverse scales. -/
def INV (m : ℕ) : Vec F S128x128 .f32 := invOf (SSQ B m 8) (AMX B m 8)
/-- Its scales. -/
def YS (m : ℕ) : Vec F S128x1 .f32 := ysOf (SSQ B m 8) (AMX B m 8)
/-- The normalised codes stored at point `t`: those of the tile projected eight points before. -/
def YC (t : ℕ) : Vec F S128x2048 .fp8e4m3 := ycTile (RS B (t / 8 - 1)) (INV B (t / 8 - 1)) (NEW B (t - 8)) (B.g t)

/-- The finalising and quantising steps of point `t`. -/
def head (t : ℕ) (s : St F) : St F :=
  if t % 8 = 0 ∧ t < 768 then stQ (if t % 8 = 0 ∧ 8 ≤ t then stF s else s) else (if t % 8 = 0 ∧ 8 ≤ t then stF s else s)

/-- All the steps of point `t`. -/
def stepAt (t : ℕ) (s : St F) : St F :=
  if t < 768 then stP (nt t) (if 8 ≤ t then stN (nt t) (head t s) else head t s) else (if 8 ≤ t then stN (nt t) (head t s) else head t s)

/-- What the scratch buffers hold when point `t` begins. -/
structure Inv (t : ℕ) (s : St F) : Prop where
  cur : ∀ j : Fin 8, t < 768 → j.val < t % 8 → rtile s.rb j = NEW B (8 * (t / 8) + j.val)
  prev : ∀ j : Fin 8, 8 ≤ t → t < 776 → (t < 768 → t % 8 ≤ j.val) → rtile s.rb j = NEW B (8 * (t / 8 - 1) + j.val)
  ssq : t < 768 → t % 8 ≠ 0 → s.ssq = SSQ B (t / 8) (t % 8)
  amx : t < 768 → t % 8 ≠ 0 → s.amx = AMX B (t / 8) (t % 8)
  fssq : t % 8 = 0 → 8 ≤ t → t < 776 → s.ssq = SSQ B (t / 8 - 1) 8
  famx : t % 8 = 0 → 8 ≤ t → t < 776 → s.amx = AMX B (t / 8 - 1) 8
  rs : 8 ≤ t → t < 776 → t % 8 ≠ 0 → s.rs = RS B (t / 8 - 1)
  inv : 8 ≤ t → t < 776 → t % 8 ≠ 0 → s.inv = INV B (t / 8 - 1)

/-- What the blocks hold when point `t` begins: the inputs their blocks, and past a row block's first point the codes and
scales quantised there. -/
structure Pre (t : ℕ) (s : St F) : Prop extends Inv B t s where
  x : s.x = B.x t
  w : s.w = B.w t
  ws : s.ws = B.ws t
  res : s.res = B.res t
  g : s.g = B.g t
  xc : t < 768 → t % 8 ≠ 0 → s.xc = XC B (t / 8)
  xs : t < 768 → t % 8 ≠ 0 → s.xs = XS B (t / 8)

/-- After the finalising and quantising steps the codes, the statistics and the scales are the point's. -/
structure Mid (t : ℕ) (s s' : St F) : Prop where
  x : s'.x = s.x
  w : s'.w = s.w
  ws : s'.ws = s.ws
  res : s'.res = s.res
  g : s'.g = s.g
  ro : s'.ro = s.ro
  yc : s'.yc = s.yc
  rb : s'.rb = s.rb
  xc : t < 768 → s'.xc = XC B (t / 8)
  xs : t < 768 → s'.xs = XS B (t / 8)
  xc' : ¬ (t % 8 = 0 ∧ t < 768) → s'.xc = s.xc
  xs' : ¬ (t % 8 = 0 ∧ t < 768) → s'.xs = s.xs
  ys : t % 8 = 0 → 8 ≤ t → s'.ys = YS B (t / 8 - 1)
  ys' : ¬ (t % 8 = 0 ∧ 8 ≤ t) → s'.ys = s.ys
  ssq : t < 768 → s'.ssq = SSQ B (t / 8) (t % 8)
  amx : t < 768 → s'.amx = AMX B (t / 8) (t % 8)
  rs : 8 ≤ t → s'.rs = RS B (t / 8 - 1)
  inv : 8 ≤ t → s'.inv = INV B (t / 8 - 1)

theorem mid (t : ℕ) (ht : t < 776) (s : St F) (h : Pre B t s) : Mid B t s (head t s) := by
  unfold head
  by_cases h0 : t % 8 = 0
  · have hx : 8 * (t / 8) = t := by omega
    have exc : xcOf s.x = XC B (t / 8) := by rw [h.x]; unfold XC; rw [hx]
    have exs : xsOf s.x = XS B (t / 8) := by rw [h.x]; unfold XS; rw [hx]
    by_cases h1 : t < 768
    · rw [if_pos ⟨h0, h1⟩]
      by_cases h2 : 8 ≤ t
      · rw [if_pos ⟨h0, h2⟩]
        have e1 := h.fssq h0 h2 ht
        have e2 := h.famx h0 h2 ht
        exact ⟨rfl, rfl, rfl, rfl, rfl, rfl, rfl, rfl, fun _ => exc, fun _ => exs, fun k => absurd ⟨h0, h1⟩ k, fun k => absurd ⟨h0, h1⟩ k,
          fun _ _ => by show ysOf s.ssq s.amx = _; rw [e1, e2]; rfl, fun k => absurd ⟨h0, h2⟩ k, fun _ => by rw [h0]; rfl, fun _ => by rw [h0]; rfl,
          fun _ => by show rsOf s.ssq = _; rw [e1]; rfl, fun _ => by show invOf s.ssq s.amx = _; rw [e1, e2]; rfl⟩
      · rw [if_neg (fun k => h2 k.2)]
        exact ⟨rfl, rfl, rfl, rfl, rfl, rfl, rfl, rfl, fun _ => exc, fun _ => exs, fun k => absurd ⟨h0, h1⟩ k, fun k => absurd ⟨h0, h1⟩ k,
          fun _ k => absurd k h2, fun _ => rfl, fun _ => by rw [h0]; rfl, fun _ => by rw [h0]; rfl, fun k => absurd k h2, fun k => absurd k h2⟩
    · have h2 : 8 ≤ t := by omega
      rw [if_neg (fun k => h1 k.2), if_pos ⟨h0, h2⟩]
      have e1 := h.fssq h0 h2 ht
      have e2 := h.famx h0 h2 ht
      exact ⟨rfl, rfl, rfl, rfl, rfl, rfl, rfl, rfl, fun k => absurd k h1, fun k => absurd k h1, fun _ => rfl, fun _ => rfl,
        fun _ _ => by show ysOf s.ssq s.amx = _; rw [e1, e2]; rfl, fun k => absurd ⟨h0, h2⟩ k, fun k => absurd k h1, fun k => absurd k h1,
        fun _ => by show rsOf s.ssq = _; rw [e1]; rfl, fun _ => by show invOf s.ssq s.amx = _; rw [e1, e2]; rfl⟩
  · rw [if_neg (fun k => h0 k.1), if_neg (fun k => h0 k.1)]
    exact ⟨rfl, rfl, rfl, rfl, rfl, rfl, rfl, rfl, fun k => h.xc k h0, fun k => h.xs k h0, fun _ => rfl, fun _ => rfl,
      fun k => absurd k h0, fun _ => rfl, fun k => h.ssq k h0, fun k => h.amx k h0, fun k => h.rs k ht h0, fun k => h.inv k ht h0⟩

/-- What point `t` leaves: the scratch buffers as the next point finds them, the inputs as they were, and each output stored
with its value or left alone. -/
structure Post (t : ℕ) (s s' : St F) : Prop where
  next : Inv B (t + 1) s'
  x : s'.x = s.x
  w : s'.w = s.w
  ws : s'.ws = s.ws
  res : s'.res = s.res
  g : s'.g = s.g
  ro : t < 768 → s'.ro = NEW B t
  ro' : ¬ t < 768 → s'.ro = s.ro
  xc : t < 768 → s'.xc = XC B (t / 8)
  xs : t < 768 → s'.xs = XS B (t / 8)
  xc' : ¬ (t % 8 = 0 ∧ t < 768) → s'.xc = s.xc
  xs' : ¬ (t % 8 = 0 ∧ t < 768) → s'.xs = s.xs
  yc : 8 ≤ t → s'.yc = YC B t
  yc' : ¬ 8 ≤ t → s'.yc = s.yc
  ys : t % 8 = 0 → 8 ≤ t → s'.ys = YS B (t / 8 - 1)
  ys' : ¬ (t % 8 = 0 ∧ 8 ≤ t) → s'.ys = s.ys

/-- The normalising step: only the codes change, to those of the tile projected eight points before. -/
theorem norm_yc (t : ℕ) (ht : t < 776) (s : St F) (h : Pre B t s) (s' : St F) (hm : Mid B t s s') (h8 : 8 ≤ t) :
    (stN (nt t) s').yc = YC B t := by
  show ycOf s'.rs s'.inv s'.rb s'.g (nt t) = _
  rw [ycOf_eq, hm.rs h8, hm.inv h8, hm.rb, hm.g, h.g, h.prev (nt t) h8 ht (fun _ => Nat.le_refl _)]
  unfold YC
  rw [show 8 * (t / 8 - 1) + (nt t).val = t - 8 from by show 8 * (t / 8 - 1) + t % 8 = t - 8; omega]

/-- The tile the projection computes is the point's. -/
theorem proj_new (t : ℕ) (s : St F) (h : Pre B t s) (s' : St F) (hm : Mid B t s s') (h1 : t < 768) : s'.new (nt t) = NEW B t := by
  unfold St.new NEW
  rw [hm.xc h1, hm.xs h1, hm.w, hm.ws, hm.res, h.w, h.ws, h.res]

/-- The scratch buffers after a point that projects. -/
theorem next_proj (t : ℕ) (s : St F) (h : Pre B t s) (s' : St F) (hm : Mid B t s s') (h1 : t < 768) : Inv B (t + 1) (stP (nt t) s') := by
  have en := proj_new B t s h s' hm h1
  have erb : (stP (nt t) s').rb = put s.rb ![0, 2048 * (nt t).val] S128x2048.size (NEW B t) := by
    show put s'.rb _ _ (s'.new (nt t)) = _; rw [en, hm.rb]
  have essq : (stP (nt t) s').ssq = SSQ B (t / 8) (t % 8 + 1) := by
    show ssqOf s'.ssq (s'.new (nt t)) = _
    rw [en, hm.ssq h1]; show _ = ssqOf _ (NEW B (8 * (t / 8) + t % 8)); rw [Nat.div_add_mod]
  have eamx : (stP (nt t) s').amx = AMX B (t / 8) (t % 8 + 1) := by
    show amxOf s'.amx (s'.new (nt t)) s'.g = _
    rw [en, hm.amx h1, hm.g, h.g]; show _ = amxOf _ (NEW B (8 * (t / 8) + t % 8)) (B.g (8 * (t / 8) + t % 8)); rw [Nat.div_add_mod]
  have tile : ∀ j : Fin 8, j.val = t % 8 → rtile (stP (nt t) s').rb j = NEW B (8 * (t / 8) + j.val) := fun j hj => by
    have : j = nt t := Fin.ext hj
    subst this
    rw [erb, rtile_put, hj, Nat.div_add_mod]
  have other : ∀ j : Fin 8, j.val ≠ t % 8 → rtile (stP (nt t) s').rb j = rtile s.rb j := fun j hj => by
    rw [erb, rtile_put_ne _ _ _ (fun e => hj (congrArg Fin.val e))]
  refine ⟨fun j k1 k2 => ?_, fun j k1 k2 k3 => ?_, fun k1 k2 => ?_, fun k1 k2 => ?_, fun k1 k2 k3 => ?_, fun k1 k2 k3 => ?_, fun k1 k2 k3 => ?_, fun k1 k2 k3 => ?_⟩
  · have e : (t + 1) / 8 = t / 8 := by omega
    rw [e]
    by_cases hj : j.val = t % 8
    · exact tile j hj
    · rw [other j hj]; exact h.cur j h1 (by omega)
  · by_cases hj : j.val = t % 8
    · have e : (t + 1) / 8 - 1 = t / 8 := by
        have := j.isLt
        by_cases h7 : t + 1 < 768
        · have := k3 h7; omega
        · omega
      rw [e]; exact tile j hj
    · rw [other j hj]
      by_cases h7 : t % 8 = 7
      · have e : (t + 1) / 8 - 1 = t / 8 := by omega
        have := j.isLt
        rw [e]; exact h.cur j h1 (by omega)
      · have e : (t + 1) / 8 - 1 = t / 8 - 1 := by omega
        rw [e]; exact h.prev j (by omega) (by omega) (fun _ => by have := k3 (by omega); omega)
  · rw [essq, show (t + 1) / 8 = t / 8 from by omega, show (t + 1) % 8 = t % 8 + 1 from by omega]
  · rw [eamx, show (t + 1) / 8 = t / 8 from by omega, show (t + 1) % 8 = t % 8 + 1 from by omega]
  · rw [essq, show (t + 1) / 8 - 1 = t / 8 from by omega, show t % 8 + 1 = 8 from by omega]
  · rw [eamx, show (t + 1) / 8 - 1 = t / 8 from by omega, show t % 8 + 1 = 8 from by omega]
  · show s'.rs = _
    rw [hm.rs (by omega), show (t + 1) / 8 - 1 = t / 8 - 1 from by omega]
  · show s'.inv = _
    rw [hm.inv (by omega), show (t + 1) / 8 - 1 = t / 8 - 1 from by omega]

/-- The scratch buffers after a point of the drain. -/
theorem next_drain (t : ℕ) (s : St F) (h : Pre B t s) (s' : St F) (hm : Mid B t s s') (h1 : ¬ t < 768) (ht : t < 776) : Inv B (t + 1) s' := by
  refine ⟨fun j k1 => absurd k1 (by omega), fun j k1 k2 k3 => ?_, fun k1 => absurd k1 (by omega), fun k1 => absurd k1 (by omega),
    fun k1 k2 k3 => absurd k3 (by omega), fun k1 k2 k3 => absurd k3 (by omega), fun k1 k2 k3 => ?_, fun k1 k2 k3 => ?_⟩
  · rw [hm.rb, show (t + 1) / 8 - 1 = t / 8 - 1 from by omega]; exact h.prev j (by omega) ht (fun k => absurd k h1)
  · rw [hm.rs (by omega), show (t + 1) / 8 - 1 = t / 8 - 1 from by omega]
  · rw [hm.inv (by omega), show (t + 1) / 8 - 1 = t / 8 - 1 from by omega]

/-- One point. -/
theorem step_post (t : ℕ) (ht : t < 776) (s : St F) (h : Pre B t s) : Post B t s (stepAt t s) := by
  have hm := mid B t ht s h
  unfold stepAt
  generalize head t s = s' at hm
  by_cases h1 : t < 768
  · rw [if_pos h1]
    by_cases h8 : 8 ≤ t
    · rw [if_pos h8]
      have e := norm_yc B t ht s h s' hm h8
      have en : (stN (nt t) s').new (nt t) = NEW B t := proj_new B t s h s' hm h1
      have ni := next_proj B t s h s' hm h1
      exact ⟨⟨ni.cur, ni.prev, ni.ssq, ni.amx, ni.fssq, ni.famx, ni.rs, ni.inv⟩, hm.x, hm.w, hm.ws, hm.res, hm.g, fun _ => en, fun k => absurd h1 k,
        hm.xc, hm.xs, hm.xc', hm.xs', fun _ => e, fun k => absurd h8 k, hm.ys, hm.ys'⟩
    · rw [if_neg h8]
      exact ⟨next_proj B t s h s' hm h1, hm.x, hm.w, hm.ws, hm.res, hm.g, fun _ => proj_new B t s h s' hm h1, fun k => absurd h1 k,
        hm.xc, hm.xs, hm.xc', hm.xs', fun k => absurd k h8, fun _ => hm.yc, hm.ys, hm.ys'⟩
  · have h8 : 8 ≤ t := by omega
    rw [if_neg h1, if_pos h8]
    have ni := next_drain B t s h s' hm h1 ht
    exact ⟨⟨ni.cur, ni.prev, ni.ssq, ni.amx, ni.fssq, ni.famx, ni.rs, ni.inv⟩, hm.x, hm.w, hm.ws, hm.res, hm.g, fun k => absurd k h1, fun _ => hm.ro,
      hm.xc, hm.xs, hm.xc', hm.xs', fun _ => norm_yc B t ht s h s' hm h8, fun k => absurd h8 k, hm.ys, hm.ys'⟩

end Cert.KernelIdeal.K

end
-- ==== Proof.KI.Facts.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.WritesUnit
public import Idealize.ShloMosaic.Lib.VecWindow

/-! The grid's points in closed form: which branches a point takes, which outputs it stores, when their blocks are
written back, and where their buffers still hold what an earlier point left. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row-block coordinate of a point. -/
theorem co0 (t : Fin cfg0.N) : (grid0.coords t 0).val = t.val / 8 := by
  have ht : t.val < 776 := Nat.lt_of_lt_of_eq t.isLt N_0
  have e : (grid0.coords t 0).val = t.val / 8 % 97 := Pipeline.Grid.coords_val t 0 (by decide) rfl
  rw [e]; omega

/-- The column-tile coordinate of a point. -/
theorem co1 (t : Fin cfg0.N) : (grid0.coords t 1).val = t.val % 8 := by
  have e : (grid0.coords t 1).val = t.val / 1 % 8 := Pipeline.Grid.coords_val t 1 (by decide) rfl
  rw [e]; omega

/-- A point finalises at the first column of every row block but the first; -/
theorem hcond1 : ∀ t : Fin cfg0.N, k0_cond1 (grid0.coords t) = 1#1 ↔ t.val % 8 = 0 ∧ 8 ≤ t.val := by decide +kernel

/-- it quantises at the first column of every row block but the drain; -/
theorem hcond2 : ∀ t : Fin cfg0.N, k0_cond2 (grid0.coords t) = 1#1 ↔ t.val % 8 = 0 ∧ t.val < 768 := by decide +kernel

/-- it projects only in the first row block; -/
theorem hcond3 : ∀ t : Fin cfg0.N, k0_cond3 (grid0.coords t) = 1#1 ↔ t.val < 8 := by decide +kernel

/-- it normalises and projects in the middle ones; -/
theorem hcond4 : ∀ t : Fin cfg0.N, k0_cond4 (grid0.coords t) = 1#1 ↔ 8 ≤ t.val ∧ t.val < 768 := by decide +kernel

/-- it normalises only in the drain. -/
theorem hcond5 : ∀ t : Fin cfg0.N, k0_cond5 (grid0.coords t) = 1#1 ↔ 768 ≤ t.val := by decide +kernel

/-- The points that store nothing into output 5. -/
theorem idle5 : ∀ t : Fin cfg0.N, cfg0.idle 5 (grid0.coords t) = decide (768 ≤ t.val) := by decide +kernel

/-- The points after which output 5's block is written back. -/
theorem flush5 : ∀ t : Fin cfg0.N, (cfg0.win 5).flush t = decide (t.val < 767 ∨ t.val = 775) := fun t => by
  rw [Window.flush_eq_flushF]; revert t; decide +kernel

/-- Where output 5's buffer holds nothing stored since the start or its last write-back. -/
theorem fresh5 (t : Fin cfg0.N) : cfg0.fresh 5 t.val = (fun n => decide (n ≤ 767 ∨ n = 776)) t.val :=
  Pipeline.Cfg.fresh_tab cfg0 5 (fun n => decide (n ≤ 767 ∨ n = 776)) rfl (fun t => by
    have ht : t.val < 776 := Nat.lt_of_lt_of_eq t.isLt N_0
    show decide ((t.val + 1) ≤ 767 ∨ (t.val + 1) = 776) = ((cfg0.win 5).flush t || (cfg0.idle 5 (grid0.coords t) && decide (t.val ≤ 767 ∨ t.val = 776)))
    rw [flush5 t, idle5 t, ← Bool.decide_and, ← Bool.decide_or]
    exact decide_eq_decide.mpr (by omega)) t.val (Nat.le_of_lt t.isLt)

/-- The points that store nothing into output 6. -/
theorem idle6 : ∀ t : Fin cfg0.N, cfg0.idle 6 (grid0.coords t) = decide (¬ (t.val % 8 = 0 ∧ t.val < 768)) := by decide +kernel

/-- The points after which output 6's block is written back. -/
theorem flush6 : ∀ t : Fin cfg0.N, (cfg0.win 6).flush t = decide ((t.val % 8 = 7 ∧ t.val < 760) ∨ t.val = 775) := fun t => by
  rw [Window.flush_eq_flushF]; revert t; decide +kernel

/-- Where output 6's buffer holds nothing stored since the start or its last write-back. -/
theorem fresh6 (t : Fin cfg0.N) : cfg0.fresh 6 t.val = (fun n => decide ((n % 8 = 0 ∧ n ≤ 760) ∨ n = 776)) t.val :=
  Pipeline.Cfg.fresh_tab cfg0 6 (fun n => decide ((n % 8 = 0 ∧ n ≤ 760) ∨ n = 776)) rfl (fun t => by
    have ht : t.val < 776 := Nat.lt_of_lt_of_eq t.isLt N_0
    show decide (((t.val + 1) % 8 = 0 ∧ (t.val + 1) ≤ 760) ∨ (t.val + 1) = 776) = ((cfg0.win 6).flush t || (cfg0.idle 6 (grid0.coords t) && decide ((t.val % 8 = 0 ∧ t.val ≤ 760) ∨ t.val = 776)))
    rw [flush6 t, idle6 t, ← Bool.decide_and, ← Bool.decide_or]
    exact decide_eq_decide.mpr (by omega)) t.val (Nat.le_of_lt t.isLt)

/-- The points that store nothing into output 7. -/
theorem idle7 : ∀ t : Fin cfg0.N, cfg0.idle 7 (grid0.coords t) = decide (¬ (t.val % 8 = 0 ∧ t.val < 768)) := by decide +kernel

/-- The points after which output 7's block is written back. -/
theorem flush7 : ∀ t : Fin cfg0.N, (cfg0.win 7).flush t = decide ((t.val % 8 = 7 ∧ t.val < 760) ∨ t.val = 775) := fun t => by
  rw [Window.flush_eq_flushF]; revert t; decide +kernel

/-- Where output 7's buffer holds nothing stored since the start or its last write-back. -/
theorem fresh7 (t : Fin cfg0.N) : cfg0.fresh 7 t.val = (fun n => decide ((n % 8 = 0 ∧ n ≤ 760) ∨ n = 776)) t.val :=
  Pipeline.Cfg.fresh_tab cfg0 7 (fun n => decide ((n % 8 = 0 ∧ n ≤ 760) ∨ n = 776)) rfl (fun t => by
    have ht : t.val < 776 := Nat.lt_of_lt_of_eq t.isLt N_0
    show decide (((t.val + 1) % 8 = 0 ∧ (t.val + 1) ≤ 760) ∨ (t.val + 1) = 776) = ((cfg0.win 7).flush t || (cfg0.idle 7 (grid0.coords t) && decide ((t.val % 8 = 0 ∧ t.val ≤ 760) ∨ t.val = 776)))
    rw [flush7 t, idle7 t, ← Bool.decide_and, ← Bool.decide_or]
    exact decide_eq_decide.mpr (by omega)) t.val (Nat.le_of_lt t.isLt)

/-- The points that store nothing into output 8. -/
theorem idle8 : ∀ t : Fin cfg0.N, cfg0.idle 8 (grid0.coords t) = decide (t.val < 8) := by decide +kernel

/-- The points after which output 8's block is written back. -/
theorem flush8 : ∀ t : Fin cfg0.N, (cfg0.win 8).flush t = decide (8 ≤ t.val) := fun t => by
  rw [Window.flush_eq_flushF]; revert t; decide +kernel

/-- The points that store nothing into output 9. -/
theorem idle9 : ∀ t : Fin cfg0.N, cfg0.idle 9 (grid0.coords t) = decide (¬ (t.val % 8 = 0 ∧ 8 ≤ t.val)) := by decide +kernel

/-- The points after which output 9's block is written back. -/
theorem flush9 : ∀ t : Fin cfg0.N, (cfg0.win 9).flush t = decide (t.val % 8 = 7 ∧ 8 ≤ t.val) := fun t => by
  rw [Window.flush_eq_flushF]; revert t; decide +kernel

/-- Where output 9's buffer holds nothing stored since the start or its last write-back. -/
theorem fresh9 (t : Fin cfg0.N) : cfg0.fresh 9 t.val = (fun n => decide (n ≤ 8 ∨ n % 8 = 0)) t.val :=
  Pipeline.Cfg.fresh_tab cfg0 9 (fun n => decide (n ≤ 8 ∨ n % 8 = 0)) rfl (fun t => by
    have ht : t.val < 776 := Nat.lt_of_lt_of_eq t.isLt N_0
    show decide ((t.val + 1) ≤ 8 ∨ (t.val + 1) % 8 = 0) = ((cfg0.win 9).flush t || (cfg0.idle 9 (grid0.coords t) && decide (t.val ≤ 8 ∨ t.val % 8 = 0)))
    rw [flush9 t, idle9 t, ← Bool.decide_and, ← Bool.decide_or]
    exact decide_eq_decide.mpr (by omega)) t.val (Nat.le_of_lt t.isLt)

end Cert.KernelIdeal.K

end
-- ==== Proof.KI.Held.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.WritesUnit
public import Idealize.ShloMosaic.Lib.VecWindow
public import proofs.«01_k».proof.Proof.KI.Vals

/-! The fifteen blocks held at given contents, and what the body's loads and stores leave in them. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

section

/-- The fifteen blocks, held at the contents `s`. -/
def held (c : Dev nD) (arg2 : Memref sig .tc .vmem S128x3072 .bf16) (arg3 : Memref sig .tc .vmem S3072x16384 .fp8e4m3) (arg4 : Memref sig .tc .vmem S1x2048 .f32) (arg5 : Memref sig .tc .vmem S128x2048 .bf16) (arg6 : Memref sig .tc .vmem S1x2048 .bf16) (arg7 : Memref sig .tc .vmem S128x2048 .bf16) (arg8 : Memref sig .tc .vmem S128x3072 .fp8e4m3) (arg9 : Memref sig .tc .vmem S128x1 .f32) (arg10 : Memref sig .tc .vmem S128x2048 .fp8e4m3) (arg11 : Memref sig .tc .vmem S128x1 .f32) (arg12 : Memref sig .tc .vmem S128x16384 .bf16) (arg13 : Memref sig .tc .vmem S128x128 .f32) (arg14 : Memref sig .tc .vmem S128x128 .f32) (arg15 : Memref sig .tc .vmem S128x128 .f32) (arg16 : Memref sig .tc .vmem S128x128 .f32) (s : St F) : sProp 𝕄 :=
  iprop(owns (c : Thread nD τ) arg2 fullShare s.x ∗
    owns (c : Thread nD τ) arg3 fullShare s.w ∗
    owns (c : Thread nD τ) arg4 fullShare s.ws ∗
    owns (c : Thread nD τ) arg5 fullShare s.res ∗
    owns (c : Thread nD τ) arg6 fullShare s.g ∗
    owns (c : Thread nD τ) arg7 fullShare s.ro ∗
    owns (c : Thread nD τ) arg8 fullShare s.xc ∗
    owns (c : Thread nD τ) arg9 fullShare s.xs ∗
    owns (c : Thread nD τ) arg10 fullShare s.yc ∗
    owns (c : Thread nD τ) arg11 fullShare s.ys ∗
    owns (c : Thread nD τ) arg12 fullShare s.rb ∗
    owns (c : Thread nD τ) arg13 fullShare s.ssq ∗
    owns (c : Thread nD τ) arg14 fullShare s.amx ∗
    owns (c : Thread nD τ) arg15 fullShare s.inv ∗
    owns (c : Thread nD τ) arg16 fullShare s.rs)

end

section Reads

variable {κ : Kind} {sp : Space}

/-- The sixteen stores of normalised chunks leave the tile of normalised codes. -/
theorem read_nrm (arg10 : Memref sig κ sp S128x2048 .fp8e4m3) (f : arg10.view.ty.Contents (Elt F)) (arg12 : Memref sig κ sp S128x16384 .bf16)
    (f12 : arg12.view.ty.Contents (Elt F)) (arg6 : Memref sig κ sp S1x2048 .bf16) (f6 : arg6.view.ty.Contents (Elt F)) (n : Fin 8)
    (off : Fin 16 → Fin 2 → ℕ) (hoff : ∀ k, off k = ![0, 2048 * n.val + 128 * k.val])
    (inb : ∀ k a, off k a + S128x128.size a ≤ S128x16384.size a) (rs inv : Vec F S128x128 .f32) :
    arg10.view.read (Elt F) (arg10.view.writes (Elt F) f
      (View.tilePieces (Val := Elt F) (s := S128x2048) (e := .fp8e4m3) S128x128.size (fun k : Fin 16 => ![0, 128 * k.val]) inbY
        (fun k => k0_pay106 rs inv (arg12.view.readAt (Elt F) (Rect.unit (s := S128x16384) (off k) S128x128.size (inb k)).toLoadRect f12)
          (arg6.view.readAt (Elt F) (Rect.unit (s := S1x2048) ![0, 128 * k.val] S1x128.size (inbG k)).toLoadRect f6)) 16 (Nat.le_refl _)))
      = ycOf rs inv (arg12.view.read (Elt F) f12) (arg6.view.read (Elt F) f6) n := by
  funext y
  have h1 : (y 1).val < 2048 := (y 1).isLt
  rw [View.read_tilePieces arg10.view f S128x128.size _ inbY _ 16 (Nat.le_refl _) y (chunkOf y) (chunkOf y).isLt (laneOf y)
    (Fin.forall_fin_two.mpr ⟨(Nat.zero_add _).symm, by
      show (y 1).val = 128 * ((y 1).val / 128) + (y 1).val % 128
      omega⟩) 1 (fun k hk => by
      show (y 1).val < 128 * k.val ∨ 128 * k.val + 128 ≤ (y 1).val
      have : k.val ≠ (y 1).val / 128 := fun h => hk (Fin.ext h)
      omega)]
  rw [View.readAt_unit arg12.view f12 (inb _) (hoff _) (inbR n _), View.readAt_unit arg6.view f6 (inbG _) rfl (inbG _)]
  rfl

/-- A load of sixteenth `k` of the gains. -/
theorem read_gain (arg6 : Memref sig κ sp S1x2048 .bf16) (h : arg6.IsWhole) (g : Vec F S1x2048 .bf16) (k : Fin 16) (o : ℕ) (ho : o = 128 * k.val)
    (inb : ∀ a, (![0, o] : Fin 2 → ℕ) a + S1x128.size a ≤ S1x2048.size a) :
    arg6.view.readAt (Elt F) (Rect.unit (s := S1x2048) ![0, o] S1x128.size inb).toLoadRect (h.unread g) = gchunk g k := by
  subst ho
  exact (View.readAt_unit arg6.view _ inb rfl (inbG k)).trans (by rw [h.read_unread]; rfl)

end Reads

end Cert.KernelIdeal.K

end
-- ==== Proof.KI.Pays.lean ====
module

public import proofs.«01_k».proof.Proof.KI.Vals
public import Idealize.ShloMosaic.Lib.Pipeline.Value

/-! The values the body's two projection branches store, as they are written out over their statements, are the tile, the
sums of squares and the magnitudes of `Vals`. -/

@[expose] public section

noncomputable section

namespace Cert.KernelIdeal.K

open Cert.KernelIdeal Cert.KernelIdeal.Gen
open Idealize.ShloMosaic Idealize.ShloMosaic.VecWindow

variable {F : FTy → Type} [FloatOps F]

/-- The sums of squares in the first row block. -/
theorem ssq_first (xc : Vec F S128x3072 .fp8e4m3) (w : Vec F S3072x2048 .fp8e4m3) (xs : Vec F S128x1 .f32) (ws : Vec F S1x2048 .f32)
    (res : Vec F S128x2048 .bf16) (s : Vec F S128x128 .f32) :
    k0_pay6 (k0_pay103 (k0_pay78 xc w xs ws res) (k0_pay98 (k0_pay78 xc w xs ws res) (k0_pay90 (k0_pay78 xc w xs ws res) (k0_pay81 xc w xs ws res s)
      (k0_pay84 xc w xs ws res)))) (k0_pay105 (k0_pay78 xc w xs ws res))
      = ssqOf s (k0_pay78 xc w xs ws res) := by
  simp only [k0_pay5, k0_pay6, k0_pay80, k0_pay81, k0_pay83, k0_pay84, k0_pay85, k0_pay86, k0_pay87, k0_pay89, k0_pay90, k0_pay92, k0_pay93, k0_pay94, k0_pay95, k0_pay97, k0_pay98, k0_pay99, k0_pay100, k0_pay101, k0_pay102, k0_pay103, k0_pay105, shapeCast_self]
  generalize k0_pay78 xc w xs ws res = N
  rfl

/-- The sums of squares in a middle row block. -/
theorem ssq_steady (xc : Vec F S128x3072 .fp8e4m3) (w : Vec F S3072x2048 .fp8e4m3) (xs : Vec F S128x1 .f32) (ws : Vec F S1x2048 .f32)
    (res : Vec F S128x2048 .bf16) (s : Vec F S128x128 .f32) :
    k0_pay9 (k0_pay127 xc w xs ws res) (k0_pay153 (k0_pay127 xc w xs ws res) (k0_pay147 (k0_pay127 xc w xs ws res) (k0_pay139 (k0_pay127 xc w xs ws
      res) (k0_pay130 xc w xs ws res s) (k0_pay132 xc w xs ws res))))
      = ssqOf s (k0_pay127 xc w xs ws res) := by
  simp only [k0_pay8, k0_pay9, k0_pay129, k0_pay130, k0_pay132, k0_pay133, k0_pay134, k0_pay135, k0_pay136, k0_pay138, k0_pay139, k0_pay141, k0_pay142, k0_pay143, k0_pay144, k0_pay146, k0_pay147, k0_pay148, k0_pay149, k0_pay150, k0_pay152, k0_pay153, shapeCast_self]
  generalize k0_pay127 xc w xs ws res = N
  rfl

/-- The magnitudes in the first row block. -/
theorem amx_first (xc : Vec F S128x3072 .fp8e4m3) (w : Vec F S3072x2048 .fp8e4m3) (xs : Vec F S128x1 .f32) (ws : Vec F S1x2048 .f32)
    (res : Vec F S128x2048 .bf16) (s : Vec F S128x128 .f32) (gs : Fin 16 → Vec F S1x128 .bf16) :
    k0_pay7 (k0_pay104 (k0_pay78 xc w xs ws res) (k0_pay96 (k0_pay78 xc w xs ws res) (k0_pay88 (k0_pay78 xc w xs ws res) (k0_pay82 xc w xs ws res s
      (gs 0)) (k0_pay83 xc w xs ws res) (gs 1) (gs 2) (gs 3) (gs 4)) (k0_pay91 (k0_pay78 xc w xs ws res) (gs 5)) (gs 6) (gs 7) (gs 8) (gs 9))
      (k0_pay97 (k0_pay78 xc w xs ws res)) (gs 10) (gs 11) (gs 12) (gs 13) (gs 14)) (k0_pay105 (k0_pay78 xc w xs ws res)) (gs 15)
      = amxFold s (k0_pay78 xc w xs ws res) gs := by
  simp only [k0_pay5, k0_pay7, k0_pay80, k0_pay82, k0_pay83, k0_pay85, k0_pay86, k0_pay87, k0_pay88, k0_pay89, k0_pay91, k0_pay92, k0_pay93, k0_pay94, k0_pay95, k0_pay96, k0_pay97, k0_pay99, k0_pay100, k0_pay101, k0_pay102, k0_pay104, k0_pay105, shapeCast_self]
  generalize k0_pay78 xc w xs ws res = N
  rfl

/-- The magnitudes in a middle row block. -/
theorem amx_steady (xc : Vec F S128x3072 .fp8e4m3) (w : Vec F S3072x2048 .fp8e4m3) (xs : Vec F S128x1 .f32) (ws : Vec F S1x2048 .f32)
    (res : Vec F S128x2048 .bf16) (s : Vec F S128x128 .f32) (gs : Fin 16 → Vec F S1x128 .bf16) :
    k0_pay10 (k0_pay127 xc w xs ws res) (k0_pay151 (k0_pay127 xc w xs ws res) (k0_pay145 (k0_pay127 xc w xs ws res) (k0_pay137 (k0_pay127 xc w xs ws
      res) (k0_pay131 xc w xs ws res s (gs 0)) (k0_pay132 xc w xs ws res) (gs 1) (gs 2) (gs 3) (gs 4)) (k0_pay138 (k0_pay127 xc w xs ws res))
      (k0_pay140 (gs 5)) (gs 6) (gs 7) (gs 8) (gs 9)) (k0_pay146 (k0_pay127 xc w xs ws res)) (gs 10) (gs 11) (gs 12) (gs 13)) (k0_pay154 (k0_pay127 xc
      w xs ws res) (gs 14)) (gs 15)
      = amxFold s (k0_pay127 xc w xs ws res) gs := by
  simp only [k0_pay8, k0_pay10, k0_pay129, k0_pay131, k0_pay132, k0_pay133, k0_pay134, k0_pay135, k0_pay136, k0_pay137, k0_pay138, k0_pay140, k0_pay141, k0_pay142, k0_pay143, k0_pay144, k0_pay145, k0_pay146, k0_pay148, k0_pay149, k0_pay150, k0_pay151, k0_pay152, k0_pay154, shapeCast_self]
  generalize k0_pay127 xc w xs ws res = N
  rfl

/-- The tile kept in the row buffer is the tile stored. -/
theorem keep_first (xc : Vec F S128x3072 .fp8e4m3) (w : Vec F S3072x2048 .fp8e4m3) (xs : Vec F S128x1 .f32) (ws : Vec F S1x2048 .f32)
    (res : Vec F S128x2048 .bf16) : k0_pay79 xc w xs ws res = newOf xc w xs ws res := by
  unfold k0_pay79; rw [shapeCast_self]; rfl

/-- The tile kept in the row buffer is the tile stored. -/
theorem keep_steady (xc : Vec F S128x3072 .fp8e4m3) (w : Vec F S3072x2048 .fp8e4m3) (xs : Vec F S128x1 .f32) (ws : Vec F S1x2048 .f32)
    (res : Vec F S128x2048 .bf16) : k0_pay128 xc w xs ws res = newOf xc w xs ws res := by
  unfold k0_pay128; rw [shapeCast_self]; rfl

/-- The first row block's tile is the same function. -/
theorem new_first (xc : Vec F S128x3072 .fp8e4m3) (w : Vec F S3072x2048 .fp8e4m3) (xs : Vec F S128x1 .f32) (ws : Vec F S1x2048 .f32)
    (res : Vec F S128x2048 .bf16) : k0_pay78 xc w xs ws res = newOf xc w xs ws res := rfl

end Cert.KernelIdeal.K

end
-- ==== Proof.KI.RunA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case A of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first point the row block is quantised and its first column tile projected. -/
theorem run_A (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : k0_cond2 i = 1#1) (hc3 : k0_cond3 i = 1#1) (hc4 : ¬ k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stQ s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off1 i) S3072x2048.size inb).toLoadRect (harg3.unread s.w) = wcols s.w n := fun inb => by
    rw [View.readAt_unit arg3.view _ inb ((k0_off1_eq i).trans (by rw [hn])) (inbW n), harg3.read_unread]; rfl
  have e2 := fun inb => (View.readAt_full (Val := Elt F) arg2.view (harg2.unread s.x) (off := ![0, 0]) inb).trans (harg2.read_unread s.x)
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have c8 := fun inb inb' w L => View.readCov_full (Val := Elt F) arg8.view (off := ![0, 0]) (off' := ![0, 0]) inb inb' w L
  have c9 := fun inb inb' w L => View.readCov_full (Val := Elt F) arg9.view (off := ![0, 0]) (off' := ![0, 0]) inb inb' w L
  have c13 := fun inb inb' w L => View.readCov_full (Val := Elt F) arg13.view (off := ![0, 0]) (off' := ![0, 0]) inb inb' w L
  have c14 := fun inb inb' w L => View.readCov_full (Val := Elt F) arg14.view (off := ![0, 0]) (off' := ![0, 0]) inb inb' w L
  simp only [cc0_out_proj_rmsnorm_fp8_eq_skeleton]; unfold cc0_out_proj_rmsnorm_fp8_skel
  simp only [k0_part3_eq_skeleton, k0_part4_eq_skeleton, k0_part5_eq_skeleton, k0_part6_eq_skeleton, k0_part7_eq_skeleton, k0_part8_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e2, e4, e5, c8, c9, c13, c14, ew, View.writes_nil]
    rfl
  isplitl [H8]
  · iexists _; isplitr; swap; · iexact H8
    ipureintro
    refine (View.read_writes_full arg8.view _ _ _ _).trans ?_; sl_open_run; try simp only [e2, e4, e5, c8, c9, c13, c14]
    rfl
  isplitl [H9]
  · iexists _; isplitr; swap; · iexact H9
    ipureintro
    refine (View.read_writes_full arg9.view _ _ _ _).trans ?_; sl_open_run; try simp only [e2, e4, e5, c8, c9, c13, c14]
    rfl
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off2_eq i).trans (by rw [hn]))).trans ?_
    sl_open_run; try simp only [View.writes_nil, e2, e4, e5, c8, c9, c13, c14, ew]
    try rw [harg12.read_unread]
    exact congrArg (put s.rb _ _) (keep_first _ _ _ _ _)
  isplitl [H13]
  · iexists _; isplitr; swap; · iexact H13
    ipureintro
    refine (View.read_writes_full arg13.view _ _ _ _).trans ?_; sl_open_run; try simp only [e2, e4, e5, c8, c9, c13, c14, ew, View.writes_nil]
    exact ssq_first _ _ _ _ _ _
  isplitl [H14]
  · iexists _; isplitr; swap; · iexact H14
    ipureintro
    refine (View.read_writes_full arg14.view _ _ _ _).trans ?_; sl_open_run; try simp only [e2, e4, e5, c8, c9, c13, c14, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_first _ _ _ _ _ _ (gchunk s.g)
  isplitl [H15]
  · iexists _; isplitr; swap; · iexact H15
    ipureintro
    exact harg15.read_unread _
  iexists _; isplitr; swap; · iexact H16
  ipureintro
  exact harg16.read_unread _

end Cert.KernelIdeal.K

end
-- ==== Proof.KI.RunB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case B of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later points of the first row block a column tile is projected. -/
theorem run_B (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : k0_cond3 i = 1#1) (hc4 : ¬ k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n s) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off1 i) S3072x2048.size inb).toLoadRect (harg3.unread s.w) = wcols s.w n := fun inb => by
    rw [View.readAt_unit arg3.view _ inb ((k0_off1_eq i).trans (by rw [hn])) (inbW n), harg3.read_unread]; rfl
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e8 := fun inb => (View.readAt_full (Val := Elt F) arg8.view (harg8.unread s.xc) (off := ![0, 0]) inb).trans (harg8.read_unread s.xc)
  have e9 := fun inb => (View.readAt_full (Val := Elt F) arg9.view (harg9.unread s.xs) (off := ![0, 0]) inb).trans (harg9.read_unread s.xs)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  simp only [cc0_out_proj_rmsnorm_fp8_eq_skeleton]; unfold cc0_out_proj_rmsnorm_fp8_skel
  simp only [k0_part5_eq_skeleton, k0_part6_eq_skeleton, k0_part7_eq_skeleton, k0_part8_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e4, e5, e8, e9, e13, e14, ew, View.writes_nil]
    rfl
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off2_eq i).trans (by rw [hn]))).trans ?_
    sl_open_run; try simp only [View.writes_nil, e4, e5, e8, e9, e13, e14, ew]
    try rw [harg12.read_unread]
    exact congrArg (put s.rb _ _) (keep_first _ _ _ _ _)
  isplitl [H13]
  · iexists _; isplitr; swap; · iexact H13
    ipureintro
    refine (View.read_writes_full arg13.view _ _ _ _).trans ?_; sl_open_run; try simp only [e4, e5, e8, e9, e13, e14, ew, View.writes_nil]
    exact ssq_first _ _ _ _ _ _
  isplitl [H14]
  · iexists _; isplitr; swap; · iexact H14
    ipureintro
    refine (View.read_writes_full arg14.view _ _ _ _).trans ?_; sl_open_run; try simp only [e4, e5, e8, e9, e13, e14, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_first _ _ _ _ _ _ (gchunk s.g)
  isplitl [H15]
  · iexists _; isplitr; swap; · iexact H15
    ipureintro
    exact harg15.read_unread _
  iexists _; isplitr; swap; · iexact H16
  ipureintro
  exact harg16.read_unread _

end Cert.KernelIdeal.K

end
-- ==== Proof.KI.RunC.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case C of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first point of a middle row block the previous block is finalised, this one quantised, and a column tile of each normalised and projected. -/
theorem run_C (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : k0_cond1 i = 1#1) (hc2 : k0_cond2 i = 1#1) (hc3 : ¬ k0_cond3 i = 1#1) (hc4 : k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stN n (stQ (stF s)))) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off4 i) S3072x2048.size inb).toLoadRect (harg3.unread s.w) = wcols s.w n := fun inb => by
    rw [View.readAt_unit arg3.view _ inb ((k0_off4_eq i).trans (by rw [hn])) (inbW n), harg3.read_unread]; rfl
  have e2 := fun inb => (View.readAt_full (Val := Elt F) arg2.view (harg2.unread s.x) (off := ![0, 0]) inb).trans (harg2.read_unread s.x)
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have c8 := fun inb inb' w L => View.readCov_full (Val := Elt F) arg8.view (off := ![0, 0]) (off' := ![0, 0]) inb inb' w L
  have c9 := fun inb inb' w L => View.readCov_full (Val := Elt F) arg9.view (off := ![0, 0]) (off' := ![0, 0]) inb inb' w L
  have c13 := fun inb inb' w L => View.readCov_full (Val := Elt F) arg13.view (off := ![0, 0]) (off' := ![0, 0]) inb inb' w L
  have c14 := fun inb inb' w L => View.readCov_full (Val := Elt F) arg14.view (off := ![0, 0]) (off' := ![0, 0]) inb inb' w L
  have c15 := fun inb inb' w L => View.readCov_full (Val := Elt F) arg15.view (off := ![0, 0]) (off' := ![0, 0]) inb inb' w L
  have c16 := fun inb inb' w L => View.readCov_full (Val := Elt F) arg16.view (off := ![0, 0]) (off' := ![0, 0]) inb inb' w L
  simp only [cc0_out_proj_rmsnorm_fp8_eq_skeleton]; unfold cc0_out_proj_rmsnorm_fp8_skel
  simp only [k0_part1_eq_skeleton, k0_part2_eq_skeleton, k0_part3_eq_skeleton, k0_part4_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e2, e4, e5, e13, e14, c8, c9, c13, c14, c15, c16, ew, View.writes_nil]
    rfl
  isplitl [H8]
  · iexists _; isplitr; swap; · iexact H8
    ipureintro
    refine (View.read_writes_full arg8.view _ _ _ _).trans ?_; sl_open_run; try simp only [e2, e4, e5, e13, e14, c8, c9, c13, c14, c15, c16]
    rfl
  isplitl [H9]
  · iexists _; isplitr; swap; · iexact H9
    ipureintro
    refine (View.read_writes_full arg9.view _ _ _ _).trans ?_; sl_open_run; try simp only [e2, e4, e5, e13, e14, c8, c9, c13, c14, c15, c16]
    rfl
  isplitl [H10]
  · iexists _; isplitr; swap; · iexact H10
    ipureintro
    refine (read_nrm arg10 _ arg12 (harg12.unread s.rb) arg6 (harg6.unread s.g) n (fun k => k0_off3 i (BitVec.ofNat 32 (128 * k.val)))
      (fun k => (k0_off3_eq i k).trans (by rw [hn])) (k0_off3_inb i hc4) _ _).trans ?_
    rw [harg12.read_unread, harg6.read_unread]
    sl_open_run; try simp only [e2, e4, e5, e13, e14, c8, c9, c13, c14, c15, c16]
    rfl
  isplitl [H11]
  · iexists _; isplitr; swap; · iexact H11
    ipureintro
    refine (View.read_writes_full arg11.view _ _ _ _).trans ?_; sl_open_run; try simp only [e2, e4, e5, e13, e14, c8, c9, c13, c14, c15, c16]
    rfl
  isplitl [H12]
  · iexists _; isplitr; swap; · iexact H12
    ipureintro
    refine (View.read_writes_cons_put arg12.view _ _ _ [] ((k0_off5_eq i).trans (by rw [hn]))).trans ?_
    sl_open_run; try simp only [View.writes_nil, e2, e4, e5, e13, e14, c8, c9, c13, c14, c15, c16, ew]
    try rw [harg12.read_unread]
    exact congrArg (put s.rb _ _) (keep_steady _ _ _ _ _)
  isplitl [H13]
  · iexists _; isplitr; swap; · iexact H13
    ipureintro
    refine (View.read_writes_full arg13.view _ _ _ _).trans ?_; sl_open_run; try simp only [e2, e4, e5, e13, e14, c8, c9, c13, c14, c15, c16, ew, View.writes_nil]
    exact ssq_steady _ _ _ _ _ _
  isplitl [H14]
  · iexists _; isplitr; swap; · iexact H14
    ipureintro
    refine (View.read_writes_full arg14.view _ _ _ _).trans ?_; sl_open_run; try simp only [e2, e4, e5, e13, e14, c8, c9, c13, c14, c15, c16, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_steady _ _ _ _ _ _ (gchunk s.g)
  isplitl [H15]
  · iexists _; isplitr; swap; · iexact H15
    ipureintro
    refine (View.read_writes_full arg15.view _ _ _ _).trans ?_; sl_open_run; try simp only [e2, e4, e5, e13, e14, c8, c9, c13, c14, c15, c16]
    rfl
  iexists _; isplitr; swap; · iexact H16
  ipureintro
  refine (View.read_writes_full arg16.view _ _ _ _).trans ?_; sl_open_run; try simp only [e2, e4, e5, e13, e14, c8, c9, c13, c14, c15, c16]
  rfl

end Cert.KernelIdeal.K

end
-- ==== Proof.KI.RunD.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case D of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later points of a middle row block a column tile of the previous block is normalised and one of this block projected. -/
theorem run_D (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : ¬ k0_cond3 i = 1#1) (hc4 : k0_cond4 i = 1#1) (hc5 : ¬ k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stP n (stN n s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have ew : ∀ inb, arg3.view.readAt (Elt F) (Rect.unit (s := S3072x16384) (k0_off4 i) S3072x2048.size inb).toLoadRect (harg3.unread s.w) = wcols s.w n := fun inb => by
    rw [View.readAt_unit arg3.view _ inb ((k0_off4_eq i).trans (by rw [hn])) (inbW n), harg3.read_unread]; rfl
  have e4 := fun inb => (View.readAt_full (Val := Elt F) arg4.view (harg4.unread s.ws) (off := ![0, 0]) inb).trans (harg4.read_unread s.ws)
  have e5 := fun inb => (View.readAt_full (Val := Elt F) arg5.view (harg5.unread s.res) (off := ![0, 0]) inb).trans (harg5.read_unread s.res)
  have e8 := fun inb => (View.readAt_full (Val := Elt F) arg8.view (harg8.unread s.xc) (off := ![0, 0]) inb).trans (harg8.read_unread s.xc)
  have e9 := fun inb => (View.readAt_full (Val := Elt F) arg9.view (harg9.unread s.xs) (off := ![0, 0]) inb).trans (harg9.read_unread s.xs)
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have e15 := fun inb => (View.readAt_full (Val := Elt F) arg15.view (harg15.unread s.inv) (off := ![0, 0]) inb).trans (harg15.read_unread s.inv)
  have e16 := fun inb => (View.readAt_full (Val := Elt F) arg16.view (harg16.unread s.rs) (off := ![0, 0]) inb).trans (harg16.read_unread s.rs)
  simp only [cc0_out_proj_rmsnorm_fp8_eq_skeleton]; unfold cc0_out_proj_rmsnorm_fp8_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (View.read_writes_full arg7.view _ _ _ _).trans ?_; sl_open_run; try simp only [e4, e5, e8, e9, e13, e14, e15, e16, ew, View.writes_nil]
    rfl
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off3 i (BitVec.ofNat 32 (128 * k.val)))
      (fun k => (k0_off3_eq i k).trans (by rw [hn])) (k0_off3_inb i hc4) _ _).trans ?_
    rw [harg12.read_unread, harg6.read_unread]
    sl_open_run; try simp only [e4, e5, e8, e9, e13, e14, e15, e16]
    rfl
  isplitl [H11]
  · iexists _; isplitr; swap; · iexact H11
    ipureintro
    exact harg11.read_unread _
  isplitl [H12]
  · iexists _; isplitr; swap; · iexact H12
    ipureintro
    refine (View.read_writes_cons_put arg12.view _ _ _ [] ((k0_off5_eq i).trans (by rw [hn]))).trans ?_
    sl_open_run; try simp only [View.writes_nil, e4, e5, e8, e9, e13, e14, e15, e16, ew]
    try rw [harg12.read_unread]
    exact congrArg (put s.rb _ _) (keep_steady _ _ _ _ _)
  isplitl [H13]
  · iexists _; isplitr; swap; · iexact H13
    ipureintro
    refine (View.read_writes_full arg13.view _ _ _ _).trans ?_; sl_open_run; try simp only [e4, e5, e8, e9, e13, e14, e15, e16, ew, View.writes_nil]
    exact ssq_steady _ _ _ _ _ _
  isplitl [H14]
  · iexists _; isplitr; swap; · iexact H14
    ipureintro
    refine (View.read_writes_full arg14.view _ _ _ _).trans ?_; sl_open_run; try simp only [e4, e5, e8, e9, e13, e14, e15, e16, ew, read_gain arg6 harg6 s.g 0 0 rfl, read_gain arg6 harg6 s.g 1 128 rfl, read_gain arg6 harg6 s.g 2 256 rfl, read_gain arg6 harg6 s.g 3 384 rfl, read_gain arg6 harg6 s.g 4 512 rfl, read_gain arg6 harg6 s.g 5 640 rfl, read_gain arg6 harg6 s.g 6 768 rfl, read_gain arg6 harg6 s.g 7 896 rfl, read_gain arg6 harg6 s.g 8 1024 rfl, read_gain arg6 harg6 s.g 9 1152 rfl, read_gain arg6 harg6 s.g 10 1280 rfl, read_gain arg6 harg6 s.g 11 1408 rfl, read_gain arg6 harg6 s.g 12 1536 rfl, read_gain arg6 harg6 s.g 13 1664 rfl, read_gain arg6 harg6 s.g 14 1792 rfl, read_gain arg6 harg6 s.g 15 1920 rfl, View.writes_nil]
    exact amx_steady _ _ _ _ _ _ (gchunk s.g)
  isplitl [H15]
  · iexists _; isplitr; swap; · iexact H15
    ipureintro
    exact harg15.read_unread _
  iexists _; isplitr; swap; · iexact H16
  ipureintro
  exact harg16.read_unread _

end Cert.KernelIdeal.K

end
-- ==== Proof.KI.RunE.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case E of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the first drain point the last row block is finalised and its first column tile normalised. -/
theorem run_E (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : k0_cond1 i = 1#1) (hc2 : ¬ k0_cond2 i = 1#1) (hc3 : ¬ k0_cond3 i = 1#1) (hc4 : ¬ k0_cond4 i = 1#1) (hc5 : k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stN n (stF s)) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e13 := fun inb => (View.readAt_full (Val := Elt F) arg13.view (harg13.unread s.ssq) (off := ![0, 0]) inb).trans (harg13.read_unread s.ssq)
  have e14 := fun inb => (View.readAt_full (Val := Elt F) arg14.view (harg14.unread s.amx) (off := ![0, 0]) inb).trans (harg14.read_unread s.amx)
  have c15 := fun inb inb' w L => View.readCov_full (Val := Elt F) arg15.view (off := ![0, 0]) (off' := ![0, 0]) inb inb' w L
  have c16 := fun inb inb' w L => View.readCov_full (Val := Elt F) arg16.view (off := ![0, 0]) (off' := ![0, 0]) inb inb' w L
  simp only [cc0_out_proj_rmsnorm_fp8_eq_skeleton]; unfold cc0_out_proj_rmsnorm_fp8_skel
  simp only [k0_part1_eq_skeleton, k0_part2_eq_skeleton, k0_part20_eq_skeleton, k0_part21_eq_skeleton, k0_part22_eq_skeleton, k0_part23_eq_skeleton, k0_part24_eq_skeleton, k0_part25_eq_skeleton, k0_part26_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off6 i (BitVec.ofNat 32 (128 * k.val)))
      (fun k => (k0_off6_eq i k).trans (by rw [hn])) (k0_off6_inb i hc5) _ _).trans ?_
    rw [harg12.read_unread, harg6.read_unread]
    sl_open_run; try simp only [e13, e14, c15, c16]
    rfl
  isplitl [H11]
  · iexists _; isplitr; swap; · iexact H11
    ipureintro
    refine (View.read_writes_full arg11.view _ _ _ _).trans ?_; sl_open_run; try simp only [e13, e14, c15, c16]
    rfl
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    refine (View.read_writes_full arg15.view _ _ _ _).trans ?_; sl_open_run; try simp only [e13, e14, c15, c16]
    rfl
  iexists _; isplitr; swap; · iexact H16
  ipureintro
  refine (View.read_writes_full arg16.view _ _ _ _).trans ?_; sl_open_run; try simp only [e13, e14, c15, c16]
  rfl

end Cert.KernelIdeal.K

end
-- ==== Proof.KI.RunF.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Held
public import proofs.«01_k».proof.Proof.KI.Pays

/-! The body's run in case F of its branches. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

set_option maxHeartbeats 1600000 in
/-- At the later drain points a column tile of the last row block is normalised. -/
theorem run_F (c : Dev nD) (i : grid0.Coords) (n : Fin 8) (hn : (i 1).val = n.val)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (hc1 : ¬ k0_cond1 i = 1#1) (hc2 : ¬ k0_cond2 i = 1#1) (hc3 : ¬ k0_cond3 i = 1#1) (hc4 : ¬ k0_cond4 i = 1#1) (hc5 : k0_cond5 i = 1#1)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stN n s) -∗ K ⟨⟩))
      ⊢ wp frame (wpE (defs₀ (F := F)) Variants.none c none) E (cc0_out_proj_rmsnorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e15 := fun inb => (View.readAt_full (Val := Elt F) arg15.view (harg15.unread s.inv) (off := ![0, 0]) inb).trans (harg15.read_unread s.inv)
  have e16 := fun inb => (View.readAt_full (Val := Elt F) arg16.view (harg16.unread s.rs) (off := ![0, 0]) inb).trans (harg16.read_unread s.rs)
  simp only [cc0_out_proj_rmsnorm_fp8_eq_skeleton]; unfold cc0_out_proj_rmsnorm_fp8_skel
  simp only [k0_part20_eq_skeleton, k0_part21_eq_skeleton, k0_part22_eq_skeleton, k0_part23_eq_skeleton, k0_part24_eq_skeleton, k0_part25_eq_skeleton, k0_part26_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := first | sl_exact hc1 | sl_exact hc2 | sl_exact hc3 | sl_exact hc4 | sl_exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    refine (read_nrm arg10 _ arg12 (harg12.unread s.rb) arg6 (harg6.unread s.g) n (fun k => k0_off6 i (BitVec.ofNat 32 (128 * k.val)))
      (fun k => (k0_off6_eq i k).trans (by rw [hn])) (k0_off6_inb i hc5) _ _).trans ?_
    rw [harg12.read_unread, harg6.read_unread]
    sl_open_run; try simp only [e15, e16]
    rfl
  isplitl [H11]
  · iexists _; isplitr; swap; · iexact H11
    ipureintro
    exact harg11.read_unread _
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  iexists _; isplitr; swap; · iexact H16
  ipureintro
  exact harg16.read_unread _

end Cert.KernelIdeal.K

end
-- ==== Proof.KI.RunAll.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import proofs.«01_k».proof.Proof.KI.Traj
public import proofs.«01_k».proof.Proof.KI.Facts
public import proofs.«01_k».proof.Proof.KI.RunA
public import proofs.«01_k».proof.Proof.KI.RunB
public import proofs.«01_k».proof.Proof.KI.RunC
public import proofs.«01_k».proof.Proof.KI.RunD
public import proofs.«01_k».proof.Proof.KI.RunE
public import proofs.«01_k».proof.Proof.KI.RunF

/-! The body's run at any grid point. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At point `t` the body takes the blocks held at `s` to the blocks held at `stepAt t s`. -/
theorem run_all (c : Dev nD) (t : Fin cfg0.N)
    (arg2 : Memref sig .tc .vmem S128x3072 .bf16) (harg2 : arg2.IsWhole) (arg3 : Memref sig .tc .vmem S3072x16384 .fp8e4m3) (harg3 : arg3.IsWhole) (arg4 : Memref sig .tc .vmem S1x2048 .f32) (harg4 : arg4.IsWhole) (arg5 : Memref sig .tc .vmem S128x2048 .bf16) (harg5 : arg5.IsWhole) (arg6 : Memref sig .tc .vmem S1x2048 .bf16) (harg6 : arg6.IsWhole) (arg7 : Memref sig .tc .vmem S128x2048 .bf16) (harg7 : arg7.IsWhole) (arg8 : Memref sig .tc .vmem S128x3072 .fp8e4m3) (harg8 : arg8.IsWhole) (arg9 : Memref sig .tc .vmem S128x1 .f32) (harg9 : arg9.IsWhole) (arg10 : Memref sig .tc .vmem S128x2048 .fp8e4m3) (harg10 : arg10.IsWhole) (arg11 : Memref sig .tc .vmem S128x1 .f32) (harg11 : arg11.IsWhole) (arg12 : Memref sig .tc .vmem S128x16384 .bf16) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole)
    (s : St F) (E : Set ℕ) (K : PUnit → sProp 𝕄) :
    iprop(held c arg2 arg3 arg4 arg5 arg6 arg7 arg8 arg9 arg10 arg11 arg12 arg13 arg14 arg15 arg16 s ∗ (held c arg2 arg3 arg4 arg5 arg6 arg7 arg8 arg9 arg10 arg11 arg12 arg13 arg14 arg15 arg16 (stepAt t.val s) -∗ K ⟨⟩))
      ⊢ wp frame (wpE (defs₀ (F := F)) Variants.none c none) E (cc0_out_proj_rmsnorm_fp8 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hN : t.val < 776 := lt_of_lt_of_eq t.isLt (show cfg0.N = 776 from N_0)
  by_cases h8 : 8 ≤ t.val
  · by_cases h768 : t.val < 768
    · by_cases h0 : t.val % 8 = 0
      · rw [show stepAt t.val s = stP (nt t.val) (stN (nt t.val) (stQ (stF s))) from by unfold stepAt head; simp only [h8, h768, h0, and_self, if_true]]
        exact run_C c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
      · rw [show stepAt t.val s = stP (nt t.val) (stN (nt t.val) s) from by unfold stepAt head; simp only [h8, h768, h0, false_and, if_true, if_false]]
        exact run_D c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
    · by_cases h0 : t.val % 8 = 0
      · rw [show stepAt t.val s = stN (nt t.val) (stF s) from by unfold stepAt head; simp only [h8, h768, h0, and_self, and_false, if_true, if_false]]
        exact run_E c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
      · rw [show stepAt t.val s = stN (nt t.val) s from by unfold stepAt head; simp only [h8, h768, h0, false_and, if_true, if_false]]
        exact run_F c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
  · have h768 : t.val < 768 := by omega
    by_cases h0 : t.val % 8 = 0
    · rw [show stepAt t.val s = stP (nt t.val) (stQ s) from by unfold stepAt head; simp only [h8, h768, h0, and_self, and_false, if_true, if_false]]
      exact run_A c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K
    · rw [show stepAt t.val s = stP (nt t.val) s from by unfold stepAt head; simp only [h8, h768, h0, false_and, if_true, if_false]]
      exact run_B c (grid0.coords t) (nt t.val) (co1 t) arg2 harg2 arg3 harg3 arg4 harg4 arg5 harg5 arg6 harg6 arg7 harg7 arg8 harg8 arg9 harg9 arg10 harg10 arg11 harg11 arg12 harg12 arg13 harg13 arg14 harg14 arg15 harg15 arg16 harg16 (by rw [hcond1 t]; omega) (by rw [hcond2 t]; omega) (by rw [hcond3 t]; omega) (by rw [hcond4 t]; omega) (by rw [hcond5 t]; omega) s E K

end Cert.KernelIdeal.K

end
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Tactic
public import Idealize.ShloMosaic.Lib.Tactic.Stretches
public import Idealize.ShloMosaic.Lib.WordCmp
public import Idealize.ShloMosaic.Lib.WritesUnit
public import Idealize.ShloMosaic.Lib.VecWindow
public import Idealize.ShloMosaic.Lib.Claim
public import proofs.«01_k».proof.Proof.KI.RunAll

/-! The pipeline's proof data: what every staged block and scratch buffer holds at every grid point, the body's obligation
against it, and the run of the whole program. -/

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

variable (m : (ℓ : Loc nD τ sig) → Buf (Elt F) ℓ) (ρ : Dev nD → PrngReg)

/-- A grid point by its number. -/
def pt (k : ℕ) : Fin cfg0.N := ⟨k % 776, by rw [show cfg0.N = 776 from N_0]; exact Nat.mod_lt _ (by decide)⟩

theorem pt_val (t : Fin cfg0.N) : pt t.val = t :=
  Fin.ext (Nat.mod_eq_of_lt (lt_of_lt_of_eq t.isLt (show cfg0.N = 776 from N_0)))

/-- The blocks staged in at each point. -/
def blocks (c : Dev nD) : Blocks F where
  x k := iblk m c 0 (pt k)
  w k := iblk m c 1 (pt k)
  ws k := iblk m c 2 (pt k)
  res k := iblk m c 3 (pt k)
  g k := iblk m c 4 (pt k)

/-- The buffer window 0 is staged in at point `t`, and that it is whole. -/
abbrev ms0_0 (t : Fin cfg0.N) : Memref sig .tc .vmem S128x3072 .bf16 := win0_0.stage (cfg0.slots t 0)
abbrev hs0_0 (t : Fin cfg0.N) : (ms0_0 t).IsWhole := hstage0_0 ((cfg0.slots t 0).cast nbuf0_0)
/-- The buffer window 1 is staged in at point `t`, and that it is whole. -/
abbrev ms0_1 (t : Fin cfg0.N) : Memref sig .tc .vmem S3072x16384 .fp8e4m3 := win0_1.stage (cfg0.slots t 1)
abbrev hs0_1 (t : Fin cfg0.N) : (ms0_1 t).IsWhole := hstage0_1 ((cfg0.slots t 1).cast nbuf0_1)
/-- The buffer window 2 is staged in at point `t`, and that it is whole. -/
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
/-- The buffer window 3 is staged in at point `t`, and that it is whole. -/
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
/-- The buffer window 4 is staged in at point `t`, and that it is whole. -/
abbrev ms0_4 (t : Fin cfg0.N) : Memref sig .tc .vmem S1x2048 .bf16 := win0_4.stage (cfg0.slots t 4)
abbrev hs0_4 (t : Fin cfg0.N) : (ms0_4 t).IsWhole := hstage0_4 ((cfg0.slots t 4).cast nbuf0_4)
/-- The buffer window 5 is staged in at point `t`, and that it is whole. -/
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
/-- The buffer window 6 is staged in at point `t`, and that it is whole. -/
abbrev ms0_6 (t : Fin cfg0.N) : Memref sig .tc .vmem S128x3072 .fp8e4m3 := win0_6.stage (cfg0.slots t 6)
abbrev hs0_6 (t : Fin cfg0.N) : (ms0_6 t).IsWhole := hstage0_6 ((cfg0.slots t 6).cast nbuf0_6)
/-- The buffer window 7 is staged in at point `t`, and that it is whole. -/
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
/-- The buffer window 8 is staged in at point `t`, and that it is whole. -/
abbrev ms0_8 (t : Fin cfg0.N) : Memref sig .tc .vmem S128x2048 .fp8e4m3 := win0_8.stage (cfg0.slots t 8)
abbrev hs0_8 (t : Fin cfg0.N) : (ms0_8 t).IsWhole := hstage0_8 ((cfg0.slots t 8).cast nbuf0_8)
/-- The buffer window 9 is staged in at point `t`, and that it is whole. -/
abbrev ms0_9 (t : Fin cfg0.N) : Memref sig .tc .vmem S128x1 .f32 := win0_9.stage (cfg0.slots t 9)
abbrev hs0_9 (t : Fin cfg0.N) : (ms0_9 t).IsWhole := hstage0_9 ((cfg0.slots t 9).cast nbuf0_9)
/-- Scratch buffer 0. -/
abbrev scM0_0 : Memref sig .tc .vmem S128x16384 .bf16 := Memref.whole cc0_scratch0
/-- Scratch buffer 1. -/
abbrev scM0_1 : Memref sig .tc .vmem S128x128 .f32 := Memref.whole cc0_scratch1
/-- Scratch buffer 2. -/
abbrev scM0_2 : Memref sig .tc .vmem S128x128 .f32 := Memref.whole cc0_scratch2
/-- Scratch buffer 3. -/
abbrev scM0_3 : Memref sig .tc .vmem S128x128 .f32 := Memref.whole cc0_scratch3
/-- Scratch buffer 4. -/
abbrev scM0_4 : Memref sig .tc .vmem S128x128 .f32 := Memref.whole cc0_scratch4

/-- The pipeline's own invariant: the scratch buffers at some contents and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The projected tile the buffer holds after point `t`: the last one from point 768 on. -/
def RO (c : Dev nD) (t : ℕ) : Vec F S128x2048 .bf16 := NEW (blocks m c) (min t 767)

/-- The invariant at the start of point `k`. -/
def Phi (c : Dev nD) (k : ℕ) : sProp 𝕄 :=
  iprop(∃ s : St F, ⌜Inv (blocks m c) k s⌝ ∗ (owns (c : Thread nD τ) scM0_0 fullShare s.rb ∗ owns (c : Thread nD τ) scM0_1 fullShare s.ssq ∗ owns (c : Thread nD τ) scM0_2 fullShare s.amx ∗ owns (c : Thread nD τ) scM0_3 fullShare s.inv ∗ owns (c : Thread nD τ) scM0_4 fullShare s.rs) ∗ (∃ r, prngReg c r))

/-- The proof data: the arrays as the region finds them, the blocks after the body at each point, the scratch invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => RO m c t.val
    | ⟨6, _⟩ => XC (blocks m c) (min (t.val / 8) 95)
    | ⟨7, _⟩ => XS (blocks m c) (min (t.val / 8) 95)
    | ⟨8, _⟩ => YC (blocks m c) t.val
    | ⟨9, _⟩ => YS (blocks m c) (t.val / 8 - 1)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = RO m c t.val := by dsimp only [dats]
theorem after0_6 (c : Dev nD) (t : Fin cfg0.N) : (dats m 0 c).after 6 t = XC (blocks m c) (min (t.val / 8) 95) := by dsimp only [dats]
theorem after0_7 (c : Dev nD) (t : Fin cfg0.N) : (dats m 0 c).after 7 t = XS (blocks m c) (min (t.val / 8) 95) := by dsimp only [dats]
theorem after0_8 (c : Dev nD) (t : Fin cfg0.N) : (dats m 0 c).after 8 t = YC (blocks m c) t.val := by dsimp only [dats]
theorem after0_9 (c : Dev nD) (t : Fin cfg0.N) : (dats m 0 c).after 9 t = YS (blocks m c) (t.val / 8 - 1) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer at contents that are the stored ones where the window is live or written back, and what it held where it is
neither, is what the point leaves. -/
theorem owns_leaves (c : Dev nD) (w : Fin cfg0.W) (t : Fin cfg0.N) (d) (v)
    (h1 : cfg0.idle w (cfg0.grid.coords t) = true → (cfg0.win w).flush t = false → v = (dats m 0 c).before w t d)
    (h2 : cfg0.idle w (cfg0.grid.coords t) = false ∨ (cfg0.win w).flush t = true → v = (dats m 0 c).after w t) :
    owns (c : Thread nD τ) ((cfg0.win w).stage (cfg0.slots t w)) fullShare v ⊢ (dats m 0 c).leavesExact w t := by
  unfold Dat.leavesExact
  cases hi : cfg0.idle w (cfg0.grid.coords t) with
  | false => rw [h2 (.inl hi)]; try exact Idealize.SL.BI.Entails.refl _
  | true =>
    cases hf : (cfg0.win w).flush t with
    | true => rw [h2 (.inr hf)]; try exact Idealize.SL.BI.Entails.refl _
    | false =>
      rw [h1 hi hf]
      iintro H; iexists d; iexact H

/-- The buffers that carry: an output idle at a point not fresh keeps what the point before left. -/
theorem carry5 (c : Dev nD) (t : Fin cfg0.N) (h0 : t.val ≠ 0) (hi : cfg0.idle 5 (cfg0.grid.coords t) = true) (hf : cfg0.fresh 5 t.val = false) :
    (dats m 0 c).after 5 t = (dats m 0 c).after 5 ⟨t.val - 1, by omega⟩ := by
  rw [after0_5, after0_5]
  have h := (idle5 t).symm.trans hi
  have := of_decide_eq_true h
  unfold RO
  rw [show min t.val 767 = min (t.val - 1) 767 from by omega]
theorem carry6 (c : Dev nD) (t : Fin cfg0.N) (h0 : t.val ≠ 0) (hi : cfg0.idle 6 (cfg0.grid.coords t) = true) (hf : cfg0.fresh 6 t.val = false) :
    (dats m 0 c).after 6 t = (dats m 0 c).after 6 ⟨t.val - 1, by omega⟩ := by
  rw [after0_6, after0_6]
  have := of_decide_eq_true ((idle6 t).symm.trans hi)
  have := of_decide_eq_false ((fresh6 t).symm.trans hf)
  rw [show min (t.val / 8) 95 = min ((t.val - 1) / 8) 95 from by omega]
theorem carry7 (c : Dev nD) (t : Fin cfg0.N) (h0 : t.val ≠ 0) (hi : cfg0.idle 7 (cfg0.grid.coords t) = true) (hf : cfg0.fresh 7 t.val = false) :
    (dats m 0 c).after 7 t = (dats m 0 c).after 7 ⟨t.val - 1, by omega⟩ := by
  rw [after0_7, after0_7]
  have := of_decide_eq_true ((idle7 t).symm.trans hi)
  have := of_decide_eq_false ((fresh7 t).symm.trans hf)
  rw [show min (t.val / 8) 95 = min ((t.val - 1) / 8) 95 from by omega]
theorem carry9 (c : Dev nD) (t : Fin cfg0.N) (h0 : t.val ≠ 0) (hi : cfg0.idle 9 (cfg0.grid.coords t) = true) (hf : cfg0.fresh 9 t.val = false) :
    (dats m 0 c).after 9 t = (dats m 0 c).after 9 ⟨t.val - 1, by omega⟩ := by
  rw [after0_9, after0_9]
  have := of_decide_eq_true ((idle9 t).symm.trans hi)
  have := of_decide_eq_false ((fresh9 t).symm.trans hf)
  rw [show t.val / 8 - 1 = (t.val - 1) / 8 - 1 from by omega]

/-- What those buffers hold when a point that is not fresh begins. -/
theorem before0_5 (c : Dev nD) (t : Fin cfg0.N) (d) (h : 768 ≤ t.val) : (dats m 0 c).before 5 t d = NEW (blocks m c) 767 := by
  have hN : t.val < 776 := lt_of_lt_of_eq t.isLt (show cfg0.N = 776 from N_0)
  rw [Dat.before_out_traj _ 5 rfl (fun _ _ => rfl) (carry5 m c) t.val t rfl d,
    if_neg (by rw [fresh5 t]; exact Bool.eq_false_iff.mp (decide_eq_false (by omega))), after0_5]
  unfold RO
  rw [show min (t.val - 1) 767 = 767 from by omega]
theorem before0_6 (c : Dev nD) (t : Fin cfg0.N) (d) (h : ¬ (t.val % 8 = 0 ∧ t.val < 768)) :
    (dats m 0 c).before 6 t d = XC (blocks m c) (min (t.val / 8) 95) := by
  have hN : t.val < 776 := lt_of_lt_of_eq t.isLt (show cfg0.N = 776 from N_0)
  rw [Dat.before_out_traj _ 6 rfl (fun _ _ => rfl) (carry6 m c) t.val t rfl d,
    if_neg (by rw [fresh6 t]; exact Bool.eq_false_iff.mp (decide_eq_false (by omega))), after0_6]
  show XC (blocks m c) (min ((t.val - 1) / 8) 95) = _
  rw [show min ((t.val - 1) / 8) 95 = min (t.val / 8) 95 from by omega]
theorem before0_7 (c : Dev nD) (t : Fin cfg0.N) (d) (h : ¬ (t.val % 8 = 0 ∧ t.val < 768)) :
    (dats m 0 c).before 7 t d = XS (blocks m c) (min (t.val / 8) 95) := by
  have hN : t.val < 776 := lt_of_lt_of_eq t.isLt (show cfg0.N = 776 from N_0)
  rw [Dat.before_out_traj _ 7 rfl (fun _ _ => rfl) (carry7 m c) t.val t rfl d,
    if_neg (by rw [fresh7 t]; exact Bool.eq_false_iff.mp (decide_eq_false (by omega))), after0_7]
  show XS (blocks m c) (min ((t.val - 1) / 8) 95) = _
  rw [show min ((t.val - 1) / 8) 95 = min (t.val / 8) 95 from by omega]
theorem before0_9 (c : Dev nD) (t : Fin cfg0.N) (d) (h : t.val % 8 ≠ 0) (h8 : 8 ≤ t.val) :
    (dats m 0 c).before 9 t d = YS (blocks m c) (t.val / 8 - 1) := by
  rw [Dat.before_out_traj _ 9 rfl (fun _ _ => rfl) (carry9 m c) t.val t rfl d,
    if_neg (by rw [fresh9 t]; exact Bool.eq_false_iff.mp (decide_eq_false (by omega))), after0_9]
  show YS (blocks m c) ((t.val - 1) / 8 - 1) = _
  rw [show (t.val - 1) / 8 - 1 = t.val / 8 - 1 from by omega]

/-- The blocks and buffers as point `t` finds them. -/
def found (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s : St F) : St F where
  x := iblk m c 0 t
  w := iblk m c 1 t
  ws := iblk m c 2 t
  res := iblk m c 3 t
  g := iblk m c 4 t
  ro := (dats m 0 c).before 5 t d5
  xc := (dats m 0 c).before 6 t d6
  xs := (dats m 0 c).before 7 t d7
  yc := (dats m 0 c).before 8 t d8
  ys := (dats m 0 c).before 9 t d9
  rb := s.rb
  ssq := s.ssq
  amx := s.amx
  inv := s.inv
  rs := s.rs

/-- They are as the pure step wants them. -/
theorem found_pre (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s : St F) (h : Inv (blocks m c) t.val s) :
    Pre (blocks m c) t.val (found m c t d5 d6 d7 d8 d9 s) where
  cur := h.cur
  prev := h.prev
  ssq := h.ssq
  amx := h.amx
  fssq := h.fssq
  famx := h.famx
  rs := h.rs
  inv := h.inv
  x := by show iblk m c 0 t = iblk m c 0 (pt t.val); rw [pt_val]
  w := by show iblk m c 1 t = iblk m c 1 (pt t.val); rw [pt_val]
  ws := by show iblk m c 2 t = iblk m c 2 (pt t.val); rw [pt_val]
  res := by show iblk m c 3 t = iblk m c 3 (pt t.val); rw [pt_val]
  g := by show iblk m c 4 t = iblk m c 4 (pt t.val); rw [pt_val]
  xc := fun h1 h2 => (before0_6 m c t d6 (fun k => h2 k.1)).trans (by rw [show min (t.val / 8) 95 = t.val / 8 from by omega])
  xs := fun h1 h2 => (before0_7 m c t d7 (fun k => h2 k.1)).trans (by rw [show min (t.val / 8) 95 = t.val / 8 from by omega])

section Leaves

variable (c : Dev nD) (t : Fin cfg0.N) (d5 : Vec F S128x2048 .bf16) (d6 : Vec F S128x3072 .fp8e4m3) (d7 : Vec F S128x1 .f32) (d8 : Vec F S128x2048 .fp8e4m3) (d9 : Vec F S128x1 .f32) (s s' : St F)
  (hp : Post (blocks m c) t.val (found m c t d5 d6 d7 d8 d9 s) s')
include hp

/-- What the step leaves in each output's buffer is what the proof data say. -/
theorem leaves5 : owns (c : Thread nD τ) (ms0_5 t) fullShare s'.ro ⊢ (dats m 0 c).leavesExact 5 t := by
  have hN : t.val < 776 := lt_of_lt_of_eq t.isLt (show cfg0.N = 776 from N_0)
  refine owns_leaves m c 5 t d5 _ (fun hi hf => ?_) (fun h => ?_)
  · have := of_decide_eq_true ((idle5 t).symm.trans hi)
    exact hp.ro' (by omega)
  · rw [after0_5]; unfold RO
    by_cases h1 : t.val < 768
    · rw [hp.ro h1, show min t.val 767 = t.val from by omega]
    · rw [hp.ro' h1, show min t.val 767 = 767 from by omega]; exact before0_5 m c t d5 (by omega)
theorem leaves6 : owns (c : Thread nD τ) (ms0_6 t) fullShare s'.xc ⊢ (dats m 0 c).leavesExact 6 t := by
  refine owns_leaves m c 6 t d6 _ (fun hi hf => ?_) (fun h => ?_)
  · exact hp.xc' (of_decide_eq_true ((idle6 t).symm.trans hi))
  · rw [after0_6]
    by_cases h1 : t.val < 768
    · rw [hp.xc h1, show min (t.val / 8) 95 = t.val / 8 from by omega]
    · rw [hp.xc' (fun k => h1 k.2)]; exact before0_6 m c t d6 (fun k => h1 k.2)
theorem leaves7 : owns (c : Thread nD τ) (ms0_7 t) fullShare s'.xs ⊢ (dats m 0 c).leavesExact 7 t := by
  refine owns_leaves m c 7 t d7 _ (fun hi hf => ?_) (fun h => ?_)
  · exact hp.xs' (of_decide_eq_true ((idle7 t).symm.trans hi))
  · rw [after0_7]
    by_cases h1 : t.val < 768
    · rw [hp.xs h1, show min (t.val / 8) 95 = t.val / 8 from by omega]
    · rw [hp.xs' (fun k => h1 k.2)]; exact before0_7 m c t d7 (fun k => h1 k.2)
theorem leaves8 : owns (c : Thread nD τ) (ms0_8 t) fullShare s'.yc ⊢ (dats m 0 c).leavesExact 8 t := by
  refine owns_leaves m c 8 t d8 _ (fun hi hf => ?_) (fun h => ?_)
  · have := of_decide_eq_true ((idle8 t).symm.trans hi)
    exact hp.yc' (by omega)
  · have h8 : 8 ≤ t.val := by
      rcases h with h | h
      · have := of_decide_eq_false ((idle8 t).symm.trans h); omega
      · exact of_decide_eq_true ((flush8 t).symm.trans h)
    rw [after0_8, hp.yc h8]
theorem leaves9 : owns (c : Thread nD τ) (ms0_9 t) fullShare s'.ys ⊢ (dats m 0 c).leavesExact 9 t := by
  refine owns_leaves m c 9 t d9 _ (fun hi hf => ?_) (fun h => ?_)
  · exact hp.ys' (of_decide_eq_true ((idle9 t).symm.trans hi))
  · have h8 : 8 ≤ t.val := by
      rcases h with h | h
      · have := of_decide_eq_false ((idle9 t).symm.trans h); omega
      · exact (of_decide_eq_true ((flush9 t).symm.trans h)).2
    rw [after0_9]
    by_cases h1 : t.val % 8 = 0
    · exact hp.ys h1 h8
    · rw [hp.ys' (fun k => h1 k.1)]; exact before0_9 m c t d9 h1 h8

end Leaves

/-- The inputs are left at their blocks. -/
theorem leavesIn (c : Dev nD) (t : Fin cfg0.N) :
    (owns (c : Thread nD τ) (ms0_0 t) fullShare (iblk m c 0 t) ⊢ (dats m 0 c).leavesExact 0 t) ∧ (owns (c : Thread nD τ) (ms0_1 t) fullShare (iblk m c 1 t) ⊢ (dats m 0 c).leavesExact 1 t) ∧ (owns (c : Thread nD τ) (ms0_2 t) fullShare (iblk m c 2 t) ⊢ (dats m 0 c).leavesExact 2 t) ∧ (owns (c : Thread nD τ) (ms0_3 t) fullShare (iblk m c 3 t) ⊢ (dats m 0 c).leavesExact 3 t) ∧ (owns (c : Thread nD τ) (ms0_4 t) fullShare (iblk m c 4 t) ⊢ (dats m 0 c).leavesExact 4 t) := by
  refine ⟨?_, ?_, ?_, ?_, ?_⟩
  · rw [← after0_0 m c t]
  · rw [← after0_1 m c t]
  · rw [← after0_2 m c t]
  · rw [← after0_3 m c t]
  · rw [← after0_4 m c t]

set_option maxHeartbeats 4000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hN : t.val < 776 := lt_of_lt_of_eq t.isLt (show cfg0.N = 776 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨%s, %hs, ⟨S0, S1, S2, S3, S4⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hp := step_post (blocks m c) t.val hN _ (found_pre m c t d5 d6 d7 d8 d9 s hs)
  iapply (run_all c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (found m c t d5 d6 d7 d8 d9 s))
  generalize stepAt t.val (found m c t d5 d6 d7 d8 d9 s) = s' at hp
  unfold held
  isplitl [H0 H1 H2 H3 H4 H5 H6 H7 H8 H9 S0 S1 S2 S3 S4]
  · dsimp only [found]
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    iexact S4
  rw [hp.x, hp.w, hp.ws, hp.res, hp.g]
  iintro ⟨H0, H1, H2, H3, H4, H5, H6, H7, H8, H9, S0, S1, S2, S3, S4⟩
  isplitl [S0 S1 S2 S3 S4 HR]
  · iexists s'
    isplitr
    · ipureintro; exact hp.next
    isplitl [S0 S1 S2 S3 S4]
    · isplitl [S0]
      · iexact S0
      isplitl [S1]
      · iexact S1
      isplitl [S2]
      · iexact S2
      isplitl [S3]
      · iexact S3
      iexact S4
    iexact HR
  isplitl [HO]
  · iexact HO
  isplitl [H0]
  · iapply (leavesIn m c t).1; iexact H0
  isplitl [H1]
  · iapply (leavesIn m c t).2.1; iexact H1
  isplitl [H2]
  · iapply (leavesIn m c t).2.2.1; iexact H2
  isplitl [H3]
  · iapply (leavesIn m c t).2.2.2.1; iexact H3
  isplitl [H4]
  · iapply (leavesIn m c t).2.2.2.2; iexact H4
  isplitl [H5]
  · iapply (leaves5 m c t d5 d6 d7 d8 d9 s s' hp); iexact H5
  isplitl [H6]
  · iapply (leaves6 m c t d5 d6 d7 d8 d9 s s' hp); iexact H6
  isplitl [H7]
  · iapply (leaves7 m c t d5 d6 d7 d8 d9 s s' hp); iexact H7
  isplitl [H8]
  · iapply (leaves8 m c t d5 d6 d7 d8 d9 s s' hp); iexact H8
  iapply (leaves9 m c t d5 d6 d7 d8 d9 s s' hp); iexact H9

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point any scratch contents do. -/
theorem hin (c : Dev nD) : Pipeline.ΦA spec0 c ⊢ (dats m 0 c).Φ 0 := by
  rw [show (dats m 0 c).Φ 0 = Phi m c 0 from rfl, PhiA0_eq]
  unfold Phi
  iintro ⟨⟨⟨%d0, HS0⟩, ⟨%d1, HS1⟩, ⟨%d2, HS2⟩, ⟨%d3, HS3⟩, ⟨%d4, HS4⟩⟩, Hg⟩
  iexists (⟨(blocks m c).x 0, (blocks m c).w 0, (blocks m c).ws 0, (blocks m c).res 0, (blocks m c).g 0, (blocks m c).res 0, XC (blocks m c) 0, XS (blocks m c) 0, YC (blocks m c) 0, YS (blocks m c) 0, d0, d1, d2, d3, d4⟩ : St F)
  isplitr
  · ipureintro
    exact ⟨fun _ _ h => absurd h (by omega), fun _ h => absurd h (by omega), fun _ h => absurd rfl h, fun _ h => absurd rfl h, fun _ h => absurd h (by omega),
      fun _ h => absurd h (by omega), fun h => absurd h (by omega), fun h => absurd h (by omega)⟩
  isplitl [HS0 HS1 HS2 HS3 HS4]
  · isplitl [HS0]
    · iexact HS0
    isplitl [HS1]
    · iexact HS1
    isplitl [HS2]
    · iexact HS2
    isplitl [HS3]
    · iexact HS3
    iexact HS4
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%s, %hs, ⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- Every run of the program ends with each array at what the proof data give and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays' part alone. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.K

end
-- ==== Proof.KI.Final.lean ====
module

public import proofs.«01_k».proof.Proof.KI.Body
public import Idealize.ShloMosaic.Lib.Pipeline.ValueKit
public import Idealize.ShloMosaic.Lib.Pipeline.Covers

/-! What the kernel's five results hold after the run, element by element: row `i` lies in row block `i / 128`, column `j` in
column tile `j / 2048`, and the block written for them is the one the run computed at that row block and tile. -/

@[expose] public section

set_option maxRecDepth 16384

noncomputable section

namespace Cert.KernelIdeal.K

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- The place of an array row in its block of 128. -/
def inRow (i : Fin 12288) : Fin 128 := ⟨i.val % 128, Nat.mod_lt _ (by decide)⟩
/-- The place of an array column in its tile of 2048. -/
def inCol (j : Fin 16384) : Fin 2048 := ⟨j.val % 2048, Nat.mod_lt _ (by decide)⟩
/-- The point that projects an array row and column. -/
def ptOf (i : Fin 12288) (j : Fin 16384) : ℕ := 8 * (i.val / 128) + j.val / 2048

def G5 (c : Dev nD) : Vec F S12288x16384 .bf16 := fun i => NEW (blocks m c) (ptOf (i 0) (i 1)) (ix2 (inRow (i 0)) (inCol (i 1)))
def G6 (c : Dev nD) : Vec F S12288x3072 .fp8e4m3 := fun i => XC (blocks m c) ((i 0).val / 128) (ix2 (inRow (i 0)) (i 1))
def G7 (c : Dev nD) : Vec F S12288x1 .f32 := fun i => XS (blocks m c) ((i 0).val / 128) (ix2 (inRow (i 0)) (i 1))
def G8 (c : Dev nD) : Vec F S12288x16384 .fp8e4m3 := fun i => YC (blocks m c) (ptOf (i 0) (i 1) + 8) (ix2 (inRow (i 0)) (inCol (i 1)))
def G9 (c : Dev nD) : Vec F S12288x1 .f32 := fun i => YS (blocks m c) ((i 0).val / 128) (ix2 (inRow (i 0)) (i 1))

/-- Where each window stands at each point. -/
theorem ix0 : ∀ t : Fin cfg0.N, win0_0.index t = ![min (t.val / 8) 95, 0] := by decide +kernel
theorem ix1' : ∀ t : Fin cfg0.N, win0_1.index t = ![0, 0] := by decide +kernel
theorem ix2' : ∀ t : Fin cfg0.N, win0_2.index t = ![0, t.val % 8] := by decide +kernel
theorem ix3' : ∀ t : Fin cfg0.N, win0_3.index t = ![min (t.val / 8) 95, if t.val / 8 = 96 then 7 else t.val % 8] := by decide +kernel
theorem ix4' : ∀ t : Fin cfg0.N, win0_4.index t = ![0, t.val % 8] := by decide +kernel
theorem ix5 : ∀ t : Fin cfg0.N, win0_5.index t = ![min (t.val / 8) 95, if t.val / 8 = 96 then 7 else t.val % 8] := by decide +kernel
theorem ix6 : ∀ t : Fin cfg0.N, win0_6.index t = ![min (t.val / 8) 95, 0] := by decide +kernel
theorem ix7 : ∀ t : Fin cfg0.N, win0_7.index t = ![min (t.val / 8) 95, 0] := by decide +kernel
theorem ix8 : ∀ t : Fin cfg0.N, win0_8.index t = ![t.val / 8 - 1, if t.val / 8 = 0 then 0 else t.val % 8] := by decide +kernel
theorem ix9 : ∀ t : Fin cfg0.N, win0_9.index t = ![t.val / 8 - 1, 0] := by decide +kernel

/-- Two readings of one family of blocks agree where the block and the place agree. -/
theorem at2 {α : Type} {a b : ℕ} (f : ℕ → Shape.Idx ⟨2, ![a, b]⟩ → α) {k l : ℕ} {y z : Shape.Idx ⟨2, ![a, b]⟩} (h : k = l)
    (h0 : (y 0).val = (z 0).val) (h1 : (y 1).val = (z 1).val) : f k y = f l z := by
  subst h; congr 1; funext i; fin_cases i
  · exact Fin.ext h0
  · exact Fin.ext h1

/-- The residual stream after the run. -/
theorem fin5 (c : Dev nD) : (dats m 0 c).arrAt 5 cfg0.N = G5 m c := by
  refine (dats m 0 c).arrAt_eq_of_covers 5 _ (by decide +kernel) fun t hf y => ?_
  have ht : t.val < 776 := lt_of_lt_of_eq t.isLt N_0
  rw [flush5, decide_eq_true_eq] at hf
  have y0 : (y 0).val < 128 := (y 0).isLt
  have y1 : (y 1).val < 2048 := (y 1).isLt
  have e0 : ((((cfg0.win 5).blk t).view.emb y) 0 : ℕ) = min (t.val / 8) 95 * 128 + (y 0).val := by blk_simp [ix5]
  have e1 : ((((cfg0.win 5).blk t).view.emb y) 1 : ℕ) = (if t.val / 8 = 96 then 7 else t.val % 8) * 2048 + (y 1).val := by blk_simp [ix5]
  blk_simp
  rw [after0_5]
  unfold RO G5
  refine at2 (NEW (blocks m c)) ?_ ?_ ?_
  · show min t.val 767 = 8 * ((((cfg0.win 5).blk t).view.emb y 0 : ℕ) / 128) + (((cfg0.win 5).blk t).view.emb y 1 : ℕ) / 2048
    rw [e0, e1]; split <;> omega
  · show (y 0).val = (((cfg0.win 5).blk t).view.emb y 0 : ℕ) % 128
    rw [e0]; omega
  · show (y 1).val = (((cfg0.win 5).blk t).view.emb y 1 : ℕ) % 2048
    rw [e1]; omega

/-- The first codes after the run. -/
theorem fin6 (c : Dev nD) : (dats m 0 c).arrAt 6 cfg0.N = G6 m c := by
  refine (dats m 0 c).arrAt_eq_of_covers 6 _ (by decide +kernel) fun t hf y => ?_
  have ht : t.val < 776 := lt_of_lt_of_eq t.isLt N_0
  rw [flush6, decide_eq_true_eq] at hf
  have y0 : (y 0).val < 128 := (y 0).isLt
  have y1 : (y 1).val < 3072 := (y 1).isLt
  have e0 : ((((cfg0.win 6).blk t).view.emb y) 0 : ℕ) = min (t.val / 8) 95 * 128 + (y 0).val := by blk_simp [ix6]
  have e1 : ((((cfg0.win 6).blk t).view.emb y) 1 : ℕ) = (y 1).val := by blk_simp [ix6]
  blk_simp
  rw [after0_6]
  unfold G6
  refine at2 (XC (blocks m c)) ?_ ?_ ?_
  · show min (t.val / 8) 95 = (((cfg0.win 6).blk t).view.emb y 0 : ℕ) / 128
    rw [e0]; omega
  · show (y 0).val = (((cfg0.win 6).blk t).view.emb y 0 : ℕ) % 128
    rw [e0]; omega
  · exact e1.symm

/-- The first scales after the run. -/
theorem fin7 (c : Dev nD) : (dats m 0 c).arrAt 7 cfg0.N = G7 m c := by
  refine (dats m 0 c).arrAt_eq_of_covers 7 _ (by decide +kernel) fun t hf y => ?_
  have ht : t.val < 776 := lt_of_lt_of_eq t.isLt N_0
  rw [flush7, decide_eq_true_eq] at hf
  have y0 : (y 0).val < 128 := (y 0).isLt
  have y1 : (y 1).val < 1 := (y 1).isLt
  have e0 : ((((cfg0.win 7).blk t).view.emb y) 0 : ℕ) = min (t.val / 8) 95 * 128 + (y 0).val := by blk_simp [ix7]
  have e1 : ((((cfg0.win 7).blk t).view.emb y) 1 : ℕ) = (y 1).val := by blk_simp [ix7]
  blk_simp
  rw [after0_7]
  unfold G7
  refine at2 (XS (blocks m c)) ?_ ?_ ?_
  · show min (t.val / 8) 95 = (((cfg0.win 7).blk t).view.emb y 0 : ℕ) / 128
    rw [e0]; omega
  · show (y 0).val = (((cfg0.win 7).blk t).view.emb y 0 : ℕ) % 128
    rw [e0]; omega
  · exact e1.symm

/-- The second codes after the run. -/
theorem fin8 (c : Dev nD) : (dats m 0 c).arrAt 8 cfg0.N = G8 m c := by
  refine (dats m 0 c).arrAt_eq_of_covers 8 _ (by decide +kernel) fun t hf y => ?_
  have ht : t.val < 776 := lt_of_lt_of_eq t.isLt N_0
  rw [flush8, decide_eq_true_eq] at hf
  have y0 : (y 0).val < 128 := (y 0).isLt
  have y1 : (y 1).val < 2048 := (y 1).isLt
  have e0 : ((((cfg0.win 8).blk t).view.emb y) 0 : ℕ) = (t.val / 8 - 1) * 128 + (y 0).val := by blk_simp [ix8]
  have e1 : ((((cfg0.win 8).blk t).view.emb y) 1 : ℕ) = (if t.val / 8 = 0 then 0 else t.val % 8) * 2048 + (y 1).val := by blk_simp [ix8]
  blk_simp
  rw [after0_8]
  unfold G8
  refine at2 (YC (blocks m c)) ?_ ?_ ?_
  · show t.val = 8 * ((((cfg0.win 8).blk t).view.emb y 0 : ℕ) / 128) + (((cfg0.win 8).blk t).view.emb y 1 : ℕ) / 2048 + 8
    rw [e0, e1]; split <;> omega
  · show (y 0).val = (((cfg0.win 8).blk t).view.emb y 0 : ℕ) % 128
    rw [e0]; omega
  · show (y 1).val = (((cfg0.win 8).blk t).view.emb y 1 : ℕ) % 2048
    rw [e1]; omega

/-- The second scales after the run. -/
theorem fin9 (c : Dev nD) : (dats m 0 c).arrAt 9 cfg0.N = G9 m c := by
  refine (dats m 0 c).arrAt_eq_of_covers 9 _ (by decide +kernel) fun t hf y => ?_
  have ht : t.val < 776 := lt_of_lt_of_eq t.isLt N_0
  rw [flush9, decide_eq_true_eq] at hf
  have y0 : (y 0).val < 128 := (y 0).isLt
  have y1 : (y 1).val < 1 := (y 1).isLt
  have e0 : ((((cfg0.win 9).blk t).view.emb y) 0 : ℕ) = (t.val / 8 - 1) * 128 + (y 0).val := by blk_simp [ix9]
  have e1 : ((((cfg0.win 9).blk t).view.emb y) 1 : ℕ) = (y 1).val := by blk_simp [ix9]
  blk_simp
  rw [after0_9]
  unfold G9
  refine at2 (YS (blocks m c)) ?_ ?_ ?_
  · show t.val / 8 - 1 = (((cfg0.win 9).blk t).view.emb y 0 : ℕ) / 128
    rw [e0]; omega
  · show (y 0).val = (((cfg0.win 9).blk t).view.emb y 0 : ℕ) % 128
    rw [e0]; omega
  · exact e1.symm

end Cert.KernelIdeal.K
-- ==== Proof.A.Ladder.lean ====
module

public import Idealize.ShloMosaic.Lib.IdealHost

/-! The power of two that a quantiser divides by, found in two ways.

The kernel climbs a ladder: starting from `2^-126` it multiplies by `2^64, 2^64, 2^62, 2^32, 2^16,
2^8, 2^4, 2^2, 2` and keeps each product that does not exceed the threshold. The mathematics is
`2^(⌊log₂ t⌋ + 1)`, capped at `2^128`, and `1` below `2^-126`. This file shows the two are equal at
every extended real. -/

@[expose] public section

namespace Cert.Pow2
open Idealize.ShloMosaic

section Def
variable {F : FTy → Type} [FloatOps F]

/-- One rung: the product, if it does not exceed the threshold. -/
def up (cb : BitVec 32) (t lo : F .f32) : F .f32 :=
  Scalar.select (FloatOps.cmpf .ole (FloatOps.mulf lo (Scalar.ofBits .f32 cb)) t)
    (FloatOps.mulf lo (Scalar.ofBits .f32 cb)) lo

/-- The same rung for the reciprocal, which moves when the power does. -/
def dn (cb ib : BitVec 32) (t lo iv : F .f32) : F .f32 :=
  Scalar.select (FloatOps.cmpf .ole (FloatOps.mulf lo (Scalar.ofBits .f32 cb)) t)
    (FloatOps.mulf iv (Scalar.ofBits .f32 ib)) iv

def l0 : F .f32 := Scalar.ofBits .f32 0x00800000#32
def l1 (t : F .f32) : F .f32 := up 0x5F800000#32 t l0
def l2 (t : F .f32) : F .f32 := up 0x5F800000#32 t (l1 t)
def l3 (t : F .f32) : F .f32 := up 0x5E800000#32 t (l2 t)
def l4 (t : F .f32) : F .f32 := up 0x4F800000#32 t (l3 t)
def l5 (t : F .f32) : F .f32 := up 0x47800000#32 t (l4 t)
def l6 (t : F .f32) : F .f32 := up 0x43800000#32 t (l5 t)
def l7 (t : F .f32) : F .f32 := up 0x41800000#32 t (l6 t)
def l8 (t : F .f32) : F .f32 := up 0x40800000#32 t (l7 t)
def l9 (t : F .f32) : F .f32 := up 0x40000000#32 t (l8 t)
def i0 : F .f32 := Scalar.ofBits .f32 0x7E000000#32
def i1 (t : F .f32) : F .f32 := dn 0x5F800000#32 0x1F800000#32 t l0 i0
def i2 (t : F .f32) : F .f32 := dn 0x5F800000#32 0x1F800000#32 t (l1 t) (i1 t)
def i3 (t : F .f32) : F .f32 := dn 0x5E800000#32 0x20800000#32 t (l2 t) (i2 t)
def i4 (t : F .f32) : F .f32 := dn 0x4F800000#32 0x2F800000#32 t (l3 t) (i3 t)
def i5 (t : F .f32) : F .f32 := dn 0x47800000#32 0x37800000#32 t (l4 t) (i4 t)
def i6 (t : F .f32) : F .f32 := dn 0x43800000#32 0x3B800000#32 t (l5 t) (i5 t)
def i7 (t : F .f32) : F .f32 := dn 0x41800000#32 0x3D800000#32 t (l6 t) (i6 t)
def i8 (t : F .f32) : F .f32 := dn 0x40800000#32 0x3E800000#32 t (l7 t) (i7 t)
def i9 (t : F .f32) : F .f32 := dn 0x40000000#32 0x3F000000#32 t (l8 t) (i8 t)

/-- The ladder's power of two for a threshold. -/
def scale (t : F .f32) : F .f32 :=
  Scalar.select (FloatOps.cmpf .olt t (Scalar.ofBits .f32 0x00800000#32))
    (Scalar.ofBits .f32 0x3F800000#32) (FloatOps.mulf (l9 t) (Scalar.ofBits .f32 0x40000000#32))

/-- The ladder's reciprocal power of two for a threshold. -/
def recip (t : F .f32) : F .f32 :=
  Scalar.select (FloatOps.cmpf .olt t (Scalar.ofBits .f32 0x00800000#32))
    (Scalar.ofBits .f32 0x3F800000#32) (i9 t)

/-- The exponent written with a logarithm. -/
def expo (t : F .f32) : F .f32 :=
  Scalar.select (FloatOps.cmpf .olt t (Scalar.ofBits .f32 0x00800000#32))
    (Scalar.ofBits .f32 0x00000000#32)
    (FloatOps.minimumf (FloatOps.addf (FloatOps.floor (FloatOps.divf (FloatOps.log t)
      (FloatOps.log (Scalar.ofBits .f32 0x40000000#32)))) (Scalar.ofBits .f32 0x3F800000#32))
      (Scalar.ofBits .f32 0x43000000#32))
end Def

/-- `2^(a-126)`. -/
noncomputable def p (a : ℕ) : EReal := (((2 : ℝ) ^ ((a : ℤ) - 126) : ℝ) : EReal)
/-- `2^(125-a)`. -/
noncomputable def q (a : ℕ) : EReal := (((2 : ℝ) ^ (125 - (a : ℤ)) : ℝ) : EReal)

theorem c0 : Ideal.ofBits .f32 0x00800000#32 = p 0 := by
  simp [Ideal.ofBits, Ideal.ieee, -EReal.coe_mul, p]; norm_num
theorem ci0 : Ideal.ofBits .f32 0x7E000000#32 = q 0 := by
  simp [Ideal.ofBits, Ideal.ieee, -EReal.coe_mul, -EReal.coe_pow, q]; norm_num

/-- The constants of the ladder: a power of two and its reciprocal. -/
def Two (cb : BitVec 32) (k : ℕ) : Prop := Ideal.ofBits .f32 cb = (((2 : ℝ) ^ (k : ℤ) : ℝ) : EReal)
def Half (ib : BitVec 32) (k : ℕ) : Prop := Ideal.ofBits .f32 ib = (((2 : ℝ) ^ (-(k : ℤ)) : ℝ) : EReal)

theorem t64 : Two 0x5F800000#32 64 := by
  simp [Two, Ideal.ofBits, Ideal.ieee, -EReal.coe_mul, -EReal.coe_pow]; norm_num
theorem t62 : Two 0x5E800000#32 62 := by
  simp [Two, Ideal.ofBits, Ideal.ieee, -EReal.coe_mul, -EReal.coe_pow]; norm_num
theorem t32 : Two 0x4F800000#32 32 := by
  simp [Two, Ideal.ofBits, Ideal.ieee, -EReal.coe_mul, -EReal.coe_pow]; norm_num
theorem t16 : Two 0x47800000#32 16 := by
  simp [Two, Ideal.ofBits, Ideal.ieee, -EReal.coe_mul, -EReal.coe_pow]; norm_num
theorem t8 : Two 0x43800000#32 8 := by
  simp [Two, Ideal.ofBits, Ideal.ieee, -EReal.coe_mul, -EReal.coe_pow]; norm_num
theorem t4 : Two 0x41800000#32 4 := by
  simp [Two, Ideal.ofBits, Ideal.ieee, -EReal.coe_mul, -EReal.coe_pow]; norm_num
theorem t2 : Two 0x40800000#32 2 := by
  simp [Two, Ideal.ofBits, Ideal.ieee, -EReal.coe_mul, -EReal.coe_pow]; norm_num
theorem t1 : Two 0x40000000#32 1 := by
  simp [Two, Ideal.ofBits, Ideal.ieee, -EReal.coe_mul, -EReal.coe_pow]; norm_num
theorem h64 : Half 0x1F800000#32 64 := by
  simp [Half, Ideal.ofBits, Ideal.ieee, -EReal.coe_mul, -EReal.coe_pow]; norm_num
theorem h62 : Half 0x20800000#32 62 := by
  simp [Half, Ideal.ofBits, Ideal.ieee, -EReal.coe_mul, -EReal.coe_pow]; norm_num
theorem h32 : Half 0x2F800000#32 32 := by
  simp [Half, Ideal.ofBits, Ideal.ieee, -EReal.coe_mul, -EReal.coe_pow]; norm_num
theorem h16 : Half 0x37800000#32 16 := by
  simp [Half, Ideal.ofBits, Ideal.ieee, -EReal.coe_mul, -EReal.coe_pow]; norm_num
theorem h8 : Half 0x3B800000#32 8 := by
  simp [Half, Ideal.ofBits, Ideal.ieee, -EReal.coe_mul, -EReal.coe_pow]; norm_num
theorem h4 : Half 0x3D800000#32 4 := by
  simp [Half, Ideal.ofBits, Ideal.ieee, -EReal.coe_mul, -EReal.coe_pow]; norm_num
theorem h2 : Half 0x3E800000#32 2 := by
  simp [Half, Ideal.ofBits, Ideal.ieee, -EReal.coe_mul, -EReal.coe_pow]; norm_num
theorem h1 : Half 0x3F000000#32 1 := by
  simp [Half, Ideal.ofBits, Ideal.ieee, -EReal.coe_mul, -EReal.coe_pow]; norm_num
theorem c128 : Ideal.ofBits .f32 0x43000000#32 = ((128 : ℝ) : EReal) := by
  simp [Ideal.ofBits, Ideal.ieee, -EReal.coe_mul, -EReal.coe_pow]; norm_num

theorem p_mul (a k : ℕ) : p a * (((2 : ℝ) ^ (k : ℤ) : ℝ) : EReal) = p (a + k) := by
  rw [p, p, ← EReal.coe_mul, ← zpow_add₀ two_ne_zero]; congr 2; push_cast; ring
theorem q_mul (a k : ℕ) : q a * (((2 : ℝ) ^ (-(k : ℤ)) : ℝ) : EReal) = q (a + k) := by
  rw [q, q, ← EReal.coe_mul, ← zpow_add₀ two_ne_zero]; congr 2; push_cast; ring

/-- The threshold has exactly the powers up to `p d` below it. -/
def Has (t : EReal) (d : ℕ) : Prop := ∀ j ≤ 253, p j ≤ t ↔ j ≤ d

theorem select_ofBool (b : Prop) [Decidable b] {α : Type} (x y : α) :
    Scalar.select (BitVec.ofBool (decide b)) x y = if b then x else y := by
  unfold Scalar.select; by_cases h : b <;> simp [h]

/-- A rung taken at `p a` lands on `p (a+k)` exactly when `a+k ≤ d`. -/
theorem up_p {t : EReal} {d a k : ℕ} {cb : BitVec 32} (ht : Has t d) (hc : Two cb k) (h : a + k ≤ 253) :
    up (F := Ideal) cb t (p a) = p (if a + k ≤ d then a + k else a) := by
  show Scalar.select (BitVec.ofBool (decide (p a * Ideal.ofBits .f32 cb ≤ t))) (p a * Ideal.ofBits .f32 cb) (p a) = _
  rw [hc, p_mul, select_ofBool, if_congr (ht _ h) rfl rfl]; split <;> rfl
theorem dn_q {t : EReal} {d a k : ℕ} {cb ib : BitVec 32} (ht : Has t d) (hc : Two cb k) (hi : Half ib k)
    (h : a + k ≤ 253) :
    dn (F := Ideal) cb ib t (p a) (q a) = q (if a + k ≤ d then a + k else a) := by
  show Scalar.select (BitVec.ofBool (decide (p a * Ideal.ofBits .f32 cb ≤ t))) (q a * Ideal.ofBits .f32 ib) (q a) = _
  rw [hc, hi, p_mul, q_mul, select_ofBool, if_congr (ht _ h) rfl rfl]; split <;> rfl

/-- A rung on whole numbers. -/
def s (k d a : ℕ) : ℕ := if a + k ≤ d then a + k else a
theorem s_le {k d a b : ℕ} (h : a ≤ b) : s k d a ≤ b + k := by unfold s; split <;> omega

def w1 (d : ℕ) := s 64 d 0
def w2 (d : ℕ) := s 64 d (w1 d)
def w3 (d : ℕ) := s 62 d (w2 d)
def w4 (d : ℕ) := s 32 d (w3 d)
def w5 (d : ℕ) := s 16 d (w4 d)
def w6 (d : ℕ) := s 8 d (w5 d)
def w7 (d : ℕ) := s 4 d (w6 d)
def w8 (d : ℕ) := s 2 d (w7 d)
def w9 (d : ℕ) := s 1 d (w8 d)

theorem walk : ∀ d : Fin 254, w9 d = d ∧ w1 d + 64 ≤ 253 ∧ w2 d + 62 ≤ 253 ∧ w3 d + 32 ≤ 253 ∧
    w4 d + 16 ≤ 253 ∧ w5 d + 8 ≤ 253 ∧ w6 d + 4 ≤ 253 ∧ w7 d + 2 ≤ 253 ∧ w8 d + 1 ≤ 253 := by decide

/-- The ladder finds the largest power not above the threshold, and its reciprocal. -/
theorem climb {t : EReal} {d : ℕ} (hd : d ≤ 253) (ht : Has t d) :
    l9 (F := Ideal) t = p d ∧ i9 (F := Ideal) t = q d := by
  obtain ⟨e9, b1, b2, b3, b4, b5, b6, b7, b8⟩ := walk ⟨d, by omega⟩
  simp only at e9 b1 b2 b3 b4 b5 b6 b7 b8
  have g0 : l0 (F := Ideal) = p 0 := c0
  have g1 : l1 (F := Ideal) t = p (w1 d) := by rw [l1, g0]; exact up_p ht t64 (by omega)
  have g2 : l2 (F := Ideal) t = p (w2 d) := by rw [l2, g1]; exact up_p ht t64 (by omega)
  have g3 : l3 (F := Ideal) t = p (w3 d) := by rw [l3, g2]; exact up_p ht t62 (by omega)
  have g4 : l4 (F := Ideal) t = p (w4 d) := by rw [l4, g3]; exact up_p ht t32 (by omega)
  have g5 : l5 (F := Ideal) t = p (w5 d) := by rw [l5, g4]; exact up_p ht t16 (by omega)
  have g6 : l6 (F := Ideal) t = p (w6 d) := by rw [l6, g5]; exact up_p ht t8 (by omega)
  have g7 : l7 (F := Ideal) t = p (w7 d) := by rw [l7, g6]; exact up_p ht t4 (by omega)
  have g8 : l8 (F := Ideal) t = p (w8 d) := by rw [l8, g7]; exact up_p ht t2 (by omega)
  have g9 : l9 (F := Ideal) t = p (w9 d) := by rw [l9, g8]; exact up_p ht t1 (by omega)
  have j0 : i0 (F := Ideal) = q 0 := ci0
  have j1 : i1 (F := Ideal) t = q (w1 d) := by rw [i1, g0, j0]; exact dn_q ht t64 h64 (by omega)
  have j2 : i2 (F := Ideal) t = q (w2 d) := by rw [i2, g1, j1]; exact dn_q ht t64 h64 (by omega)
  have j3 : i3 (F := Ideal) t = q (w3 d) := by rw [i3, g2, j2]; exact dn_q ht t62 h62 (by omega)
  have j4 : i4 (F := Ideal) t = q (w4 d) := by rw [i4, g3, j3]; exact dn_q ht t32 h32 (by omega)
  have j5 : i5 (F := Ideal) t = q (w5 d) := by rw [i5, g4, j4]; exact dn_q ht t16 h16 (by omega)
  have j6 : i6 (F := Ideal) t = q (w6 d) := by rw [i6, g5, j5]; exact dn_q ht t8 h8 (by omega)
  have j7 : i7 (F := Ideal) t = q (w7 d) := by rw [i7, g6, j6]; exact dn_q ht t4 h4 (by omega)
  have j8 : i8 (F := Ideal) t = q (w8 d) := by rw [i8, g7, j7]; exact dn_q ht t2 h2 (by omega)
  have j9 : i9 (F := Ideal) t = q (w9 d) := by rw [i9, g8, j8]; exact dn_q ht t1 h1 (by omega)
  rw [g9, j9, e9]; exact ⟨rfl, rfl⟩

/-- The ideal exponent, in closed form. -/
noncomputable def ex (t : EReal) : EReal :=
  min (Ideal.liftRound Int.floor (Ideal.div (Ideal.log t) (Ideal.log ((2 : ℝ) : EReal))) + 1) ((128 : ℝ) : EReal)

theorem two : Ideal.ofBits .f32 0x40000000#32 = ((2 : ℝ) : EReal) := by
  have h := t1; unfold Two at h; rw [h]; norm_num

theorem expo_eq (t : EReal) : expo (F := Ideal) t = if t < p 0 then 0 else ex t := by
  show Scalar.select (BitVec.ofBool (decide (t < Ideal.ofBits .f32 0x00800000#32))) (Ideal.ofBits .f32 0x00000000#32)
    (min (Ideal.liftRound Int.floor (Ideal.div (Ideal.log t) (Ideal.log (Ideal.ofBits .f32 0x40000000#32)))
      + Ideal.ofBits .f32 0x3F800000#32) (Ideal.ofBits .f32 0x43000000#32)) = _
  rw [c0, two, c128, Ideal.ofBits_one_f32, Ideal.ofBits_zero_f32, select_ofBool]; rfl

theorem log_two_pos : 0 < Real.log 2 := Real.log_pos one_lt_two

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem div_log (r : ℝ) : Ideal.div ((r : ℝ) : EReal) ((Real.log 2 : ℝ) : EReal) = ((r / Real.log 2 : ℝ) : EReal) := by
  have h : ((Real.log 2 : ℝ) : EReal) ≠ 0 := by exact_mod_cast log_two_pos.ne'
  rw [Ideal.div, if_neg h, ← EReal.coe_inv, ← EReal.coe_mul, div_eq_mul_inv]

/-- Above `2^-126` some power is the largest one not above the threshold, and the logarithm names it. -/
theorem has {t : EReal} (h : p 0 ≤ t) :
    ∃ d ≤ 253, Has t d ∧ ex t = (((d : ℝ) - 125 : ℝ) : EReal) := by
  induction t with
  | bot => exact absurd (le_bot_iff.mp h) (EReal.coe_ne_bot _)
  | top =>
    refine ⟨253, le_rfl, fun j hj => by simp [hj], ?_⟩
    have hn : ((Real.log 2 : ℝ) : EReal) ≠ 0 := by exact_mod_cast log_two_pos.ne'
    have e : Ideal.div ⊤ ((Real.log 2 : ℝ) : EReal) = ⊤ := by
      rw [Ideal.div, if_neg hn, ← EReal.coe_inv]
      exact EReal.top_mul_coe_of_pos (inv_pos.mpr log_two_pos)
    rw [ex, log_two, show Ideal.log ⊤ = ⊤ from rfl, e, show Ideal.liftRound Int.floor ⊤ = ⊤ from rfl]
    have : (⊤ : EReal) + 1 = ⊤ := by simpa using EReal.top_add_coe 1
    rw [this, min_eq_right le_top]; norm_num
  | coe r =>
    have hr' : (2 : ℝ) ^ (-126 : ℤ) ≤ r := by
      have := h; unfold p at this; simpa using EReal.coe_le_coe_iff.mp this
    have hr : 0 < r := lt_of_lt_of_le (by positivity) hr'
    have key : ∀ z : ℤ, (2 : ℝ) ^ z ≤ r ↔ z ≤ ⌊Real.log r / Real.log 2⌋ := fun z => by
      rw [Int.le_floor, le_div_iff₀ log_two_pos, ← Real.log_zpow, Real.log_le_log_iff (by positivity) hr]
    set f := ⌊Real.log r / Real.log 2⌋ with hf
    have f0 : -126 ≤ f := (key _).mp hr'
    refine ⟨min (f + 126).toNat 253, min_le_right _ _, fun j hj => ?_, ?_⟩
    · rw [p, EReal.coe_le_coe_iff, key]; omega
    · have el : Ideal.log ((r : ℝ) : EReal) = ((Real.log r : ℝ) : EReal) := by
        show (if r ≤ 0 then (⊥ : EReal) else ((Real.log r : ℝ) : EReal)) = _
        rw [if_neg (not_le.mpr hr)]
      rw [ex, log_two, el, div_log]
      show min (((f : ℝ) : EReal) + 1) _ = _
      have e1 : (((f : ℝ) : EReal) + 1) = (((f : ℝ) + 1 : ℝ) : EReal) := by push_cast; rfl
      rw [e1]
      rcases le_total f 127 with h7 | h7
      · have : min (f + 126).toNat 253 = (f + 126).toNat := by omega
        rw [this, min_eq_left (EReal.coe_le_coe_iff.mpr (by
          have : (f : ℝ) ≤ 127 := by exact_mod_cast h7
          linarith))]
        have : (((f + 126).toNat : ℤ) : ℝ) = (f : ℝ) + 126 := by
          rw [Int.toNat_of_nonneg (by omega)]; push_cast; ring
        have e2 : (((f + 126).toNat : ℕ) : ℝ) = (f : ℝ) + 126 := by rw [← this]; norm_cast
        rw [e2]; congr 1; ring
      · have : min (f + 126).toNat 253 = 253 := by omega
        rw [this, min_eq_right (EReal.coe_le_coe_iff.mpr (by
          have : (127 : ℝ) ≤ f := by exact_mod_cast h7
          linarith))]
        norm_num

theorem exp2_coe (r : ℝ) : Ideal.exp2 ((r : ℝ) : EReal) = (((2 : ℝ) ^ r : ℝ) : EReal) := rfl

/-- The ladder's power is two to the exponent. -/
theorem scale_eq (t : EReal) : scale (F := Ideal) t = Ideal.exp2 (expo (F := Ideal) t) := by
  rw [expo_eq]
  show Scalar.select (BitVec.ofBool (decide (t < Ideal.ofBits .f32 0x00800000#32))) (Ideal.ofBits .f32 0x3F800000#32)
    (l9 (F := Ideal) t * Ideal.ofBits .f32 0x40000000#32) = _
  rw [c0, Ideal.ofBits_one_f32, select_ofBool]
  split
  · have := exp2_coe 0; simp at this; exact this.symm
  · rename_i h
    obtain ⟨d, hd, ht, he⟩ := has (not_lt.mp h)
    have h1 := t1; unfold Two at h1
    rw [he, exp2_coe, (climb hd ht).1, h1, p_mul, p, ← Real.rpow_intCast]
    congr 2; push_cast; ring

/-- The ladder's reciprocal is two to minus the exponent. -/
theorem recip_eq (t : EReal) : recip (F := Ideal) t = Ideal.exp2 (0 - expo (F := Ideal) t) := by
  rw [expo_eq]
  show Scalar.select (BitVec.ofBool (decide (t < Ideal.ofBits .f32 0x00800000#32))) (Ideal.ofBits .f32 0x3F800000#32)
    (i9 (F := Ideal) t) = _
  rw [c0, Ideal.ofBits_one_f32, select_ofBool]
  split
  · have := exp2_coe 0; simp at this; simpa using this.symm
  · rename_i h
    obtain ⟨d, hd, ht, he⟩ := has (not_lt.mp h)
    rw [he, (climb hd ht).2, q, ← Real.rpow_intCast, show (0 : EReal) - (((d : ℝ) - 125 : ℝ) : EReal) = ((125 - (d : ℝ) : ℝ) : EReal) by
      rw [show (0 : EReal) = ((0 : ℝ) : EReal) from rfl, ← EReal.coe_sub]; congr 1; ring, exp2_coe]
    congr 2; push_cast; ring

end Cert.Pow2
-- ==== Proof.KI.Steps.lean ====
module

public import proofs.«01_k».proof.Proof.KI.Vals
public import proofs.«01_k».proof.Proof.A.Ladder

/-! The two ladders of the kernel, rung by rung: the scale and reciprocal scale of a row are the ladder's powers of two at the
row's threshold. -/

@[expose] public section

noncomputable section

namespace Cert.KernelIdeal.K

open Cert.KernelIdeal Cert.KernelIdeal.Gen
open Idealize.ShloMosaic

variable {F : FTy → Type} [FloatOps F]

section X
variable (x : Vec F S128x3072 .bf16) (i : S128x1.Idx)

theorem x1 : k0_pay49 x i = Pow2.l1 (k0_pay45 x i) := rfl
theorem x2 : k0_pay52 x i = Pow2.l2 (k0_pay45 x i) := by
  show Pow2.up _ (k0_pay45 x i) (k0_pay49 x i) = _; rw [x1]; rfl
theorem x3 : k0_pay55 x i = Pow2.l3 (k0_pay45 x i) := by
  show Pow2.up _ (k0_pay45 x i) (k0_pay52 x i) = _; rw [x2]; rfl
theorem x4 : k0_pay58 x i = Pow2.l4 (k0_pay45 x i) := by
  show Pow2.up _ (k0_pay45 x i) (k0_pay55 x i) = _; rw [x3]; rfl
theorem x5 : k0_pay62 x i = Pow2.l5 (k0_pay45 x i) := by
  show Pow2.up _ (k0_pay45 x i) (k0_pay58 x i) = _; rw [x4]; rfl
theorem xi4 : k0_pay59 x i = Pow2.i4 (k0_pay45 x i) := by
  show Pow2.dn _ _ (k0_pay45 x i) (k0_pay55 x i) (Pow2.dn _ _ (k0_pay45 x i) (k0_pay52 x i)
    (Pow2.dn _ _ (k0_pay45 x i) (k0_pay49 x i) (Pow2.dn _ _ (k0_pay45 x i) Pow2.l0 Pow2.i0))) = _
  rw [x1, x2, x3]; rfl

variable (T L : FVec F S128x1 .f32) (t : F .f32)
theorem x6 (hT : T i = t) (hL : L i = Pow2.l5 t) : k0_pay66 T L i = Pow2.l6 t := by
  show Pow2.up _ (T i) (L i) = _; rw [hT, hL]; rfl
theorem x7 (hT : T i = t) (hL : L i = Pow2.l5 t) : k0_pay69 T L i = Pow2.l7 t := by
  show Pow2.up _ (T i) (k0_pay66 T L i) = _; rw [x6 i T L t hT hL, hT]; rfl
theorem x8 (hT : T i = t) (hL : L i = Pow2.l5 t) : k0_pay72 T L i = Pow2.l8 t := by
  show Pow2.up _ (T i) (k0_pay69 T L i) = _; rw [x7 i T L t hT hL, hT]; rfl
theorem xscale (hT : T i = t) (hL : L i = Pow2.l5 t) : k0_pay76 T L i = Pow2.scale t := by
  show Scalar.select (FloatOps.cmpf .olt (T i) _) _ (FloatOps.mulf (Pow2.up _ (T i) (k0_pay72 T L i)) _) = _
  rw [x8 i T L t hT hL, hT]; rfl

/-- The scale of a row of `x` is the ladder's power. -/
theorem xsOf_at : xsOf x i = Pow2.scale (k0_pay45 x i) := xscale i _ _ _ rfl (x5 x i)

/-- The reciprocals from the fifth rung on. -/
def xtail (A : FVec F S128x1 .f32) (C : IVec S128x1 1) (B : FVec F S128x1 .f32) : FVec F S128x1 .f32 := fun i =>
  Scalar.select (FloatOps.cmpf .olt (T i) (Scalar.ofBits .f32 0x00800000#32)) (Scalar.ofBits .f32 0x3F800000#32)
    (Pow2.dn 0x40000000#32 0x3F000000#32 (T i) (k0_pay72 T L i) (Pow2.dn 0x40800000#32 0x3E800000#32 (T i) (k0_pay69 T L i)
      (Pow2.dn 0x41800000#32 0x3D800000#32 (T i) (k0_pay66 T L i) (Pow2.dn 0x43800000#32 0x3B800000#32 (T i) (L i)
        (Scalar.select (C i) (B i) (A i))))))

theorem pay77_at (v : FVec F S128x3072 .bf16) (A : FVec F S128x1 .f32) (C : IVec S128x1 1) (B : FVec F S128x1 .f32) (y : S128x3072.Idx) :
    k0_pay77 v T A C L B y = FloatOps.truncf .fp8e4m3 bitsLt_fp8e4m3_f32 (FloatOps.minimumf (Scalar.ofBits .f32 0x43E00000#32)
      (FloatOps.maximumf (Scalar.ofBits .f32 0xC3E00000#32) (FloatOps.mulf (FloatOps.extf .f32 bitsLt_bf16_f32 (v y))
        (broadcastTo S128x3072 (xtail T L A C B) broadcasts_S128x1_S128x3072 y)))) := rfl

theorem xrecip : xtail (k0_pay45 x) (k0_pay62 x) (k0_pay59 x) (k0_pay61 x) (k0_pay63 x) = fun i => Pow2.recip (k0_pay45 x i) := by
  funext i
  have e5 : Scalar.select (k0_pay61 x i) (k0_pay63 x i) (k0_pay59 x i) = Pow2.i5 (k0_pay45 x i) := by
    show Pow2.dn _ _ (k0_pay45 x i) (k0_pay58 x i) (k0_pay59 x i) = _
    rw [x4, xi4]; rfl
  unfold xtail
  rw [e5, x6 i _ _ _ rfl (x5 x i), x7 i _ _ _ rfl (x5 x i), x8 i _ _ _ rfl (x5 x i), x5]; rfl

/-- A code of `x`: the clipped product with the ladder's reciprocal. -/
theorem xcOf_at (y : S128x3072.Idx) : xcOf x y = FloatOps.truncf .fp8e4m3 bitsLt_fp8e4m3_f32 (FloatOps.minimumf (Scalar.ofBits .f32 0x43E00000#32)
      (FloatOps.maximumf (Scalar.ofBits .f32 0xC3E00000#32) (FloatOps.mulf (FloatOps.extf .f32 bitsLt_bf16_f32 (k0_pay44 x y))
        (broadcastTo S128x3072 (fun i => Pow2.recip (k0_pay45 x i)) broadcasts_S128x1_S128x3072 y)))) := by
  unfold xcOf; rw [pay77_at, xrecip]
end X

section Y
variable (ssq amx : Vec F S128x128 .f32) (i : S128x1.Idx)

theorem y1 : k0_pay16 ssq amx i = Pow2.l1 (k0_pay12 ssq amx i) := rfl
theorem y2 : k0_pay19 ssq amx i = Pow2.l2 (k0_pay12 ssq amx i) := by
  show Pow2.up _ (k0_pay12 ssq amx i) (k0_pay16 ssq amx i) = _; rw [y1]; rfl
theorem y3 : k0_pay22 ssq amx i = Pow2.l3 (k0_pay12 ssq amx i) := by
  show Pow2.up _ (k0_pay12 ssq amx i) (k0_pay19 ssq amx i) = _; rw [y2]; rfl
theorem y4 : k0_pay26 ssq amx i = Pow2.l4 (k0_pay12 ssq amx i) := by
  show Pow2.up _ (k0_pay12 ssq amx i) (k0_pay22 ssq amx i) = _; rw [y3]; rfl
theorem yi3 : k0_pay23 ssq amx i = Pow2.i3 (k0_pay12 ssq amx i) := by
  show Pow2.dn _ _ (k0_pay12 ssq amx i) (k0_pay19 ssq amx i)
    (Pow2.dn _ _ (k0_pay12 ssq amx i) (k0_pay16 ssq amx i) (Pow2.dn _ _ (k0_pay12 ssq amx i) Pow2.l0 Pow2.i0)) = _
  rw [y1, y2]; rfl

variable (T L : FVec F S128x1 .f32) (t : F .f32)
theorem y5 (hT : T i = t) (hL : L i = Pow2.l4 t) : k0_pay29 T L i = Pow2.l5 t := by
  show Pow2.up _ (T i) (L i) = _; rw [hT, hL]; rfl
theorem y6 (hT : T i = t) (hL : L i = Pow2.l4 t) : k0_pay32 T L i = Pow2.l6 t := by
  show Pow2.up _ (T i) (k0_pay29 T L i) = _; rw [y5 i T L t hT hL, hT]; rfl
theorem y7 (hT : T i = t) (hL : L i = Pow2.l4 t) : k0_pay35 T L i = Pow2.l7 t := by
  show Pow2.up _ (T i) (k0_pay32 T L i) = _; rw [y6 i T L t hT hL, hT]; rfl
theorem y8 (hT : T i = t) (hL : L i = Pow2.l4 t) : k0_pay38 T L i = Pow2.l8 t := by
  show Pow2.up _ (T i) (k0_pay35 T L i) = _; rw [y7 i T L t hT hL, hT]; rfl
theorem yscale (hT : T i = t) (hL : L i = Pow2.l4 t) : k0_pay42 T L i = Pow2.scale t := by
  show Scalar.select (FloatOps.cmpf .olt (T i) _) _ (FloatOps.mulf (Pow2.up _ (T i) (k0_pay38 T L i)) _) = _
  rw [y8 i T L t hT hL, hT]; rfl

/-- The scale of a normalised row is the ladder's power. -/
theorem ysOf_at : ysOf ssq amx i = Pow2.scale (k0_pay12 ssq amx i) := yscale i _ _ _ rfl (y4 ssq amx i)

theorem pay43_at (A : FVec F S128x1 .f32) (C : IVec S128x1 1) (c : F .f32) :
    k0_pay43 T A C L c i = Scalar.select (FloatOps.cmpf .olt (T i) (Scalar.ofBits .f32 0x00800000#32)) (Scalar.ofBits .f32 0x3F800000#32)
    (Pow2.dn 0x40000000#32 0x3F000000#32 (T i) (k0_pay38 T L i) (Pow2.dn 0x40800000#32 0x3E800000#32 (T i) (k0_pay35 T L i)
      (Pow2.dn 0x41800000#32 0x3D800000#32 (T i) (k0_pay32 T L i) (Pow2.dn 0x43800000#32 0x3B800000#32 (T i) (k0_pay29 T L i)
        (Pow2.dn 0x47800000#32 0x37800000#32 (T i) (L i) (Scalar.select (C i) (FloatOps.mulf (A i) c) (A i))))))) := rfl

/-- The reciprocal scale of a normalised row is the ladder's reciprocal. -/
theorem yrecip : k0_pay43 (k0_pay12 ssq amx) (k0_pay23 ssq amx) (k0_pay25 ssq amx) (k0_pay26 ssq amx) (Scalar.ofBits .f32 0x2F800000#32) i
    = Pow2.recip (k0_pay12 ssq amx i) := by
  have e4 : Scalar.select (k0_pay25 ssq amx i) (FloatOps.mulf (k0_pay23 ssq amx i) (Scalar.ofBits .f32 0x2F800000#32)) (k0_pay23 ssq amx i)
      = Pow2.i4 (k0_pay12 ssq amx i) := by
    show Pow2.dn _ _ (k0_pay12 ssq amx i) (k0_pay22 ssq amx i) (k0_pay23 ssq amx i) = _
    rw [y3, yi3]; rfl
  have h := y4 ssq amx i
  rw [pay43_at, e4, y5 i _ _ _ rfl h, y6 i _ _ _ rfl h, y7 i _ _ _ rfl h, y8 i _ _ _ rfl h, h]; rfl
end Y

end Cert.KernelIdeal.K
-- ==== Proof.A.Lay.lean ====
module

public import Idealize.ShloMosaic.Lib.MatmulPlain
public import Idealize.ShloMosaic.Lib.Pipeline.ValueKit
public import Idealize.ShloMosaic.PureOps.Ideal.Laws

/-! Layout operations and reductions of matrices of any size, read at an element. -/

@[expose] public section

noncomputable section

namespace Cert.Lay

open Idealize.ShloMosaic

variable {M N K : ℕ} {α : Type}

/-- A vector as a column. -/
theorem col (v : (⟨1, ![M]⟩ : Shape).Idx → α) (h : (⟨1, ![M]⟩ : Shape).ShapeCasts ⟨2, ![M, 1]⟩) (i : (⟨2, ![M, 1]⟩ : Shape).Idx) :
    shapeCast ⟨2, ![M, 1]⟩ v h i = v (ix1 (i 0)) := by
  refine shapeCast_apply v h i _ ?_
  rw [Shape.rowMajor_val_one, Shape.rowMajor_val_two]
  have : (i 1).val < 1 := (i 1).isLt
  show (i 0).val = (i 0).val * 1 + (i 1).val
  omega

/-- A column repeated along the rows. -/
theorem bcol (v : (⟨2, ![M, 1]⟩ : Shape).Idx → α) (h : (⟨2, ![M, 1]⟩ : Shape).Broadcasts ⟨2, ![M, N]⟩) (i : (⟨2, ![M, N]⟩ : Shape).Idx) :
    broadcastTo ⟨2, ![M, N]⟩ v h i = v (ix2 (i 0) 0) := by
  refine broadcastTo_apply v h i _ fun a => ?_
  fin_cases a
  · show (i 0).val = if M = 1 then 0 else (i 0).val
    have : (i 0).val < M := (i 0).isLt
    split <;> omega
  · rfl

/-- A row repeated down the columns. -/
theorem brow (v : (⟨2, ![1, N]⟩ : Shape).Idx → α) (h : (⟨2, ![1, N]⟩ : Shape).Broadcasts ⟨2, ![M, N]⟩) (i : (⟨2, ![M, N]⟩ : Shape).Idx) :
    broadcastTo ⟨2, ![M, N]⟩ v h i = v (ix2 0 (i 1)) := by
  refine broadcastTo_apply v h i _ fun a => ?_
  fin_cases a
  · rfl
  · show (i 1).val = if N = 1 then 0 else (i 1).val
    have : (i 1).val < N := (i 1).isLt
    split <;> omega

theorem lift1 (h : (⟨2, ![M, N]⟩ : Shape).Reduces [1] ⟨1, ![M]⟩) (j : (⟨1, ![M]⟩ : Shape).Idx) (k : Fin N) :
    h.lift j k = ix2 (j 0) k := by
  funext a; apply Fin.ext
  match a with
  | ⟨0, _⟩ => rfl
  | ⟨1, _⟩ => rfl

/-- A row sum. -/
theorem rsum {φ : FTy} (v : FVec Ideal ⟨2, ![M, N]⟩ φ) (acc : BitVec φ.bits) (h : (⟨2, ![M, N]⟩ : Shape).Reduces [1] ⟨1, ![M]⟩)
    (hφ : FKind.Formats φ) (hacc : acc = FKind.add.neutral φ hφ) (j : (⟨1, ![M]⟩ : Shape).Idx) :
    multiReduction .add [1] ⟨1, ![M]⟩ v acc h hφ hacc j = ∑ k : Fin N, v (ix2 (j 0) k) := by
  rw [Ideal.multiReduction_add_single]
  exact Finset.sum_congr rfl fun k _ => congrArg v (lift1 h j k)

/-- A row maximum. -/
theorem rmax {φ : FTy} (v : FVec Ideal ⟨2, ![M, N]⟩ φ) (acc : BitVec φ.bits) (h : (⟨2, ![M, N]⟩ : Shape).Reduces [1] ⟨1, ![M]⟩)
    (hφ : FKind.Formats φ) (hacc : acc = FKind.maximumf.neutral φ hφ) (j : (⟨1, ![M]⟩ : Shape).Idx) :
    multiReduction .maximumf [1] ⟨1, ![M]⟩ v acc h hφ hacc j
      = Finset.univ.fold max (Ideal.ofBits φ acc) fun k : Fin N => v (ix2 (j 0) k) := by
  rw [Ideal.multiReduction_maximumf_single]
  exact Finset.fold_congr fun k _ => congrArg v (lift1 h j k)

end Cert.Lay
-- ==== Proof.A.Spec.lean ====
module

public import proofs.«01_k».proof.Proof.A.Ladder
public import proofs.«01_k».proof.Proof.A.Lay
public import proofs.«01_k».proof.Proof.Gen.ReferenceIdeal.Skeleton

/-! The results as plain formulas at an element, over extended reals: the row quantiser, the projection with its residual, the
root-mean-square normalisation. The reference's five results are these formulas. -/

@[expose] public section

noncomputable section

namespace Cert.Spec

open Idealize.ShloMosaic

abbrev EX := Vec Ideal ⟨2, ![12288, 3072]⟩ .bf16
abbrev EW := Vec Ideal ⟨2, ![3072, 16384]⟩ .fp8e4m3
abbrev ES := Vec Ideal ⟨2, ![1, 16384]⟩ .f32
abbrev ER := Vec Ideal ⟨2, ![12288, 16384]⟩ .bf16
abbrev EG := Vec Ideal ⟨2, ![1, 16384]⟩ .bf16

/-- An absolute value. -/
def ab (x : EReal) : EReal := max x (-x)
/-- The largest absolute value of a row. -/
def amax {n : ℕ} (v : Fin n → EReal) : EReal :=
  Finset.univ.fold max (Ideal.ofBits .f32 0xFF800000#32) fun k => ab (v k)
/-- The threshold the exponent is taken of. -/
def thr (a : EReal) : EReal := a * Ideal.ofBits .f32 0x3B124925#32
/-- A clipped product. -/
def code (v : EReal) : EReal :=
  min (Ideal.ofBits .f32 0x43E00000#32) (max (Ideal.ofBits .f32 0xC3E00000#32) v)
/-- The exponent of a row. -/
def rexp {n : ℕ} (v : Fin n → EReal) : EReal := Pow2.expo (F := Ideal) (thr (amax v))

def ex (X : EX) (i : Fin 12288) : EReal := rexp fun k : Fin 3072 => X (ix2 i k)
def xc (X : EX) (i : Fin 12288) (k : Fin 3072) : EReal := code (X (ix2 i k) * Ideal.exp2 (0 - ex X i))
def xs (X : EX) (i : Fin 12288) : EReal := Ideal.exp2 (ex X i)
/-- The residual stream. -/
def ro (X : EX) (W : EW) (S : ES) (R : ER) (i : Fin 12288) (j : Fin 16384) : EReal :=
  (∑ k : Fin 3072, xc X i k * W (ix2 k j)) * xs X i * S (ix2 0 j) + R (ix2 i j)
/-- A row's reciprocal root mean square. -/
def rrms (v : Fin 16384 → EReal) : EReal :=
  Ideal.rsqrt (Ideal.div (∑ j, v j * v j) (Ideal.ofBits .f32 0x46800000#32) + Ideal.ofBits .f32 0x358637BD#32)
/-- A row normalised and weighted. -/
def nrm (v g : Fin 16384 → EReal) (j : Fin 16384) : EReal := v j * rrms v * g j

section Reference
open Cert.ReferenceIdeal Cert.ReferenceIdeal.Gen

section
variable {F : FTy → Type} [FloatOps F]

theorem pay4_gen (X : Vec F S12288x3072 .bf16) (i : S12288x1.Idx) : k0_pay4 X i
    = Pow2.expo (FloatOps.mulf (shapeCast S12288x1 (multiReduction .maximumf [1] S12288 (absf (k0_pay3 X)) 0xFF800000#32
        reduces_S12288x3072_S12288 (.inl rfl) rfl) shapeCasts_S12288_S12288x1 i) (Scalar.ofBits .f32 0x3B124925#32)) := rfl

theorem pay6_gen (X : Vec F S12288x3072 .bf16) (i : S12288x1.Idx) : k0_pay6 X i = FloatOps.exp2 (k0_pay4 X i) := rfl
theorem pay5_gen (X : Vec F S12288x3072 .bf16) (i : S12288x3072.Idx) : k0_pay5 X i = FloatOps.truncf .fp8e4m3 bitsLt_fp8e4m3_f32
    (FloatOps.minimumf (Scalar.ofBits .f32 0x43E00000#32) (FloatOps.maximumf (Scalar.ofBits .f32 0xC3E00000#32) (FloatOps.mulf (k0_pay3 X i)
      (broadcastTo S12288x3072 (fun i => FloatOps.exp2 (FloatOps.subf (Scalar.ofBits .f32 0x00000000#32) (k0_pay4 X i)))
        broadcasts_S12288x1_S12288x3072 i)))) := rfl
theorem pay2_gen (e : FVec F S12288x1 .f32) (i : S12288x1.Idx) : k0_pay2 e i = FloatOps.exp2 (e i) := rfl
theorem pay1_gen (P : FVec F S12288x16384 .f32) (R : Vec F S12288x16384 .bf16) (G : Vec F S1x16384 .bf16) (i : S12288x16384.Idx) :
    k0_pay1 (Scalar.ofBits .f32 0x43E00000#32) (k0_pay11 P R G) i = FloatOps.truncf .fp8e4m3 bitsLt_fp8e4m3_f32
    (FloatOps.minimumf (Scalar.ofBits .f32 0x43E00000#32) (FloatOps.maximumf (Scalar.ofBits .f32 0xC3E00000#32) (FloatOps.mulf (k0_pay9 P R G i)
      (broadcastTo S12288x16384 (fun i => FloatOps.exp2 (FloatOps.subf (Scalar.ofBits .f32 0x00000000#32) (k0_pay10 P R G i)))
        broadcasts_S12288x1_S12288x16384 i)))) := rfl

theorem pay10_gen (P : FVec F S12288x16384 .f32) (R : Vec F S12288x16384 .bf16) (G : Vec F S1x16384 .bf16) (i : S12288x1.Idx) :
    k0_pay10 P R G i
    = Pow2.expo (FloatOps.mulf (shapeCast S12288x1 (multiReduction .maximumf [1] S12288 (absf (k0_pay9 P R G)) 0xFF800000#32
        reduces_S12288x16384_S12288 (.inl rfl) rfl) shapeCasts_S12288_S12288x1 i) (Scalar.ofBits .f32 0x3B124925#32)) := rfl
end

/-- The row reductions, read at a row. -/
theorem rowmax3072 (v : FVec Ideal S12288x3072 .f32) (i : Fin 12288) :
    shapeCast S12288x1 (multiReduction .maximumf [1] S12288 v 0xFF800000#32
        reduces_S12288x3072_S12288 (.inl rfl) rfl) shapeCasts_S12288_S12288x1 (ix2 i 0)
      = Finset.univ.fold max (Ideal.ofBits .f32 0xFF800000#32) fun k : Fin 3072 => v (ix2 i k) :=
  (Lay.col _ _ _).trans (Lay.rmax _ _ _ _ _ _)
theorem rowmax16384 (v : FVec Ideal S12288x16384 .f32) (i : Fin 12288) :
    shapeCast S12288x1 (multiReduction .maximumf [1] S12288 v 0xFF800000#32
        reduces_S12288x16384_S12288 (.inl rfl) rfl) shapeCasts_S12288_S12288x1 (ix2 i 0)
      = Finset.univ.fold max (Ideal.ofBits .f32 0xFF800000#32) fun k : Fin 16384 => v (ix2 i k) :=
  (Lay.col _ _ _).trans (Lay.rmax _ _ _ _ _ _)
theorem rowsum16384 (v : FVec Ideal S12288x16384 .f32) (i : Fin 12288) :
    shapeCast S12288x1 (multiReduction .add [1] S12288 v 0x00000000#32
        reduces_S12288x16384_S12288 (.inl rfl) rfl) shapeCasts_S12288_S12288x1 (ix2 i 0)
      = ∑ k : Fin 16384, v (ix2 i k) :=
  (Lay.col _ _ _).trans (Lay.rsum _ _ _ _ _ _)
theorem proj (a : FVec Ideal S12288x3072 .fp8e4m3) (b : FVec Ideal S3072x16384 .fp8e4m3) (i : Fin 12288) (j : Fin 16384) :
    matmul (F := Ideal) dot_S12288x3072_S3072x16384_S12288x16384_1_0_0_1_n_n none a b (constant S12288x16384 .f32 0x00000000#32) (ix2 i j)
      = ∑ k : Fin 3072, a (ix2 i k) * b (ix2 k j) :=
  (Ideal.matmul_plain_apply (M := 12288) (K := 3072) (N := 16384) none a b _ i j).trans
    ((congrArg (· + _) Ideal.ofBits_zero_f32).trans (zero_add _))

theorem exp2_def' (x : EReal) : (FloatOps.exp2 (F := Ideal) (φ := .f32) x : EReal) = Ideal.exp2 x := rfl

theorem pay3_eq (X : EX) : k0_pay3 (F := Ideal) X = fun i => X i := by
  unfold k0_pay3; rw [shapeCast_self]; rfl

theorem pay4_at (X : EX) (i : Fin 12288) : k0_pay4 (F := Ideal) X (ix2 i 0) = ex X i := by
  rw [pay4_gen, rowmax3072, pay3_eq]; unfold ex rexp thr amax ab; rfl

theorem pay6_at (X : EX) (i : Fin 12288) : k0_pay6 (F := Ideal) X (ix2 i 0) = xs X i := by
  rw [pay6_gen, pay4_at]; rfl

theorem pay5_at (X : EX) (i : Fin 12288) (k : Fin 3072) : k0_pay5 (F := Ideal) X (ix2 i k) = xc X i k := by
  rw [pay5_gen, Lay.bcol, pay3_eq]
  have e : k0_pay4 (F := Ideal) X (ix2 ((ix2 i k : S12288x3072.Idx) 0) 0) = ex X i := pay4_at X i
  simp only [e, exp2_def', Ideal.subf_def, Ideal.truncf_def, Ideal.minimumf_def, Ideal.maximumf_def, Ideal.mulf_def,
    Ideal.ofBits_def, Ideal.ofBits_zero_f32]
  unfold xc code; rfl

theorem pay7_at (X : EX) (W : EW) (S : ES) (i : Fin 12288) (j : Fin 16384) : k0_pay7 (F := Ideal) X W S (ix2 i j)
    = (∑ k : Fin 3072, xc X i k * W (ix2 k j)) * xs X i * S (ix2 0 j) := by
  show matmul (F := Ideal) dot_S12288x3072_S3072x16384_S12288x16384_1_0_0_1_n_n none (k0_pay5 (F := Ideal) X) W _ (ix2 i j)
    * broadcastTo S12288x16384 (k0_pay6 (F := Ideal) X) broadcasts_S12288x1_S12288x16384 (ix2 i j)
    * broadcastTo S12288x16384 (shapeCast S1x16384 S shapeCasts_S1x16384_S1x16384) broadcasts_S1x16384_S12288x16384 (ix2 i j) = _
  rw [Lay.bcol, Lay.brow, shapeCast_self, proj]
  show _ * k0_pay6 (F := Ideal) X (ix2 i 0) * S (ix2 0 j) = _
  rw [pay6_at]
  simp only [pay5_at]

theorem pay8_at (X : EX) (W : EW) (S : ES) (R : ER) (i : Fin 12288) (j : Fin 16384) :
    k0_pay8 (F := Ideal) (k0_pay7 X W S) R (ix2 i j) = ro X W S R i j := by
  unfold k0_pay8; rw [shapeCast_self]
  show k0_pay7 (F := Ideal) X W S (ix2 i j) + R (ix2 i j) = _
  rw [pay7_at]; rfl

theorem pay9_gen {F : FTy → Type} [FloatOps F] (P : FVec F S12288x16384 .f32) (R : Vec F S12288x16384 .bf16) (G : Vec F S1x16384 .bf16) :
    k0_pay9 P R G = mulf (mulf (extf .f32 (k0_pay8 P R) bitsLt_bf16_f32) (broadcastTo S12288x16384 (rsqrt (addf (divf
      (shapeCast S12288x1 (multiReduction .add [1] S12288 (mulf (extf .f32 (k0_pay8 P R) bitsLt_bf16_f32) (extf .f32 (k0_pay8 P R) bitsLt_bf16_f32)) 0x00000000#32
        reduces_S12288x16384_S12288 (.inl rfl) rfl) shapeCasts_S12288_S12288x1) (broadcast S12288x1 (Scalar.ofBits .f32 0x46800000#32)))
        (broadcast S12288x1 (Scalar.ofBits .f32 0x358637BD#32)))) broadcasts_S12288x1_S12288x16384))
      (broadcastTo S12288x16384 (extf .f32 (shapeCast S1x16384 G shapeCasts_S1x16384_S1x16384) bitsLt_bf16_f32) broadcasts_S1x16384_S12288x16384) := rfl

theorem pay9_at (X : EX) (W : EW) (S : ES) (R : ER) (G : EG) (i : Fin 12288) (j : Fin 16384) :
    k0_pay9 (F := Ideal) (k0_pay7 X W S) R G (ix2 i j) = nrm (ro X W S R i) (fun j => G (ix2 0 j)) j := by
  rw [pay9_gen, shapeCast_self]
  show k0_pay8 (F := Ideal) (k0_pay7 X W S) R (ix2 i j) * broadcastTo S12288x16384 _ _ (ix2 i j) * broadcastTo S12288x16384 _ _ (ix2 i j) = _
  rw [Lay.bcol, Lay.brow, pay8_at]
  show _ * Ideal.rsqrt (Ideal.div (shapeCast S12288x1 _ _ (ix2 i 0)) _ + _) * G (ix2 0 j) = _
  rw [rowsum16384]
  show _ * Ideal.rsqrt (Ideal.div (∑ k : Fin 16384, k0_pay8 (F := Ideal) (k0_pay7 X W S) R (ix2 i k) * k0_pay8 (F := Ideal) (k0_pay7 X W S) R (ix2 i k)) _ + _) * G (ix2 0 j) = _
  simp only [pay8_at]
  unfold nrm rrms; rfl

def ey (X : EX) (W : EW) (S : ES) (R : ER) (G : EG) (i : Fin 12288) : EReal := rexp (nrm (ro X W S R i) fun j => G (ix2 0 j))
def ys (X : EX) (W : EW) (S : ES) (R : ER) (G : EG) (i : Fin 12288) : EReal := Ideal.exp2 (ey X W S R G i)
def yc (X : EX) (W : EW) (S : ES) (R : ER) (G : EG) (i : Fin 12288) (j : Fin 16384) : EReal :=
  code (nrm (ro X W S R i) (fun j => G (ix2 0 j)) j * Ideal.exp2 (0 - ey X W S R G i))

theorem pay10_at (X : EX) (W : EW) (S : ES) (R : ER) (G : EG) (i : Fin 12288) :
    k0_pay10 (F := Ideal) (k0_pay7 X W S) R G (ix2 i 0) = ey X W S R G i := by
  rw [pay10_gen, rowmax16384]
  show Pow2.expo (F := Ideal) (Finset.univ.fold max _ (fun k : Fin 16384 => ab (k0_pay9 (F := Ideal) (k0_pay7 X W S) R G (ix2 i k))) * _) = _
  simp only [pay9_at]; unfold ey rexp thr amax; rfl

theorem pay2_at (X : EX) (W : EW) (S : ES) (R : ER) (G : EG) (i : Fin 12288) :
    k0_pay2 (F := Ideal) (k0_pay10 (k0_pay7 X W S) R G) (ix2 i 0) = ys X W S R G i := by
  rw [pay2_gen, pay10_at]; rfl

theorem pay1_at (X : EX) (W : EW) (S : ES) (R : ER) (G : EG) (i : Fin 12288) (j : Fin 16384) :
    k0_pay1 (F := Ideal) (Scalar.ofBits .f32 0x43E00000#32) (k0_pay11 (k0_pay7 X W S) R G) (ix2 i j) = yc X W S R G i j := by
  rw [pay1_gen, Lay.bcol, pay9_at]
  have e : k0_pay10 (F := Ideal) (k0_pay7 X W S) R G (ix2 ((ix2 i j : S12288x16384.Idx) 0) 0) = ey X W S R G i := pay10_at X W S R G i
  simp only [e, exp2_def', Ideal.subf_def, Ideal.truncf_def, Ideal.minimumf_def, Ideal.maximumf_def, Ideal.mulf_def,
    Ideal.ofBits_def, Ideal.ofBits_zero_f32]
  unfold yc code; rfl

end Reference

end Cert.Spec
-- ==== Proof.KI.Elem.lean ====
module

public import proofs.«01_k».proof.Proof.KI.Steps
public import proofs.«01_k».proof.Proof.KI.Traj
public import proofs.«01_k».proof.Proof.A.Spec

/-! One block of the kernel at an element, over extended reals. -/

@[expose] public section

noncomputable section

namespace Cert.KernelIdeal.K

open Cert.KernelIdeal Cert.KernelIdeal.Gen
open Idealize.ShloMosaic Idealize.ShloMosaic.VecWindow
open Cert.Spec (ab amax thr code rexp)

theorem bot16 : Ideal.ofBits .bf16 0xFF80#16 = ⊥ := by simp [Ideal.ofBits, Ideal.ieee]
theorem bot32 : Ideal.ofBits .f32 0xFF800000#32 = ⊥ := by simp [Ideal.ofBits, Ideal.ieee]

/-- The row reductions of a block, read at a row. -/
theorem bmax3072 (v : FVec Ideal S128x3072 .bf16) (i : Fin 128) :
    shapeCast S128x1 (multiReduction .maximumf [1] S128 v 0xFF80#16 reduces_S128x3072_S128 (.inr rfl) rfl) shapeCasts_S128_S128x1 (ix2 i 0)
      = Finset.univ.fold max (Ideal.ofBits .bf16 0xFF80#16) fun k : Fin 3072 => v (ix2 i k) :=
  (Lay.col _ _ _).trans (Lay.rmax _ _ _ _ _ _)
theorem bmax128 (v : FVec Ideal S128x128 .f32) (i : Fin 128) :
    shapeCast S128x1 (multiReduction .maximumf [1] S128 v 0xFF800000#32 reduces_S128x128_S128 (.inl rfl) rfl) shapeCasts_S128_S128x1 (ix2 i 0)
      = Finset.univ.fold max (Ideal.ofBits .f32 0xFF800000#32) fun k : Fin 128 => v (ix2 i k) :=
  (Lay.col _ _ _).trans (Lay.rmax _ _ _ _ _ _)
theorem bsum128 (v : FVec Ideal S128x128 .f32) (i : Fin 128) :
    shapeCast S128x1 (multiReduction .add [1] S128 v 0x00000000#32 reduces_S128x128_S128 (.inl rfl) rfl) shapeCasts_S128_S128x1 (ix2 i 0)
      = ∑ k : Fin 128, v (ix2 i k) :=
  (Lay.col _ _ _).trans (Lay.rsum _ _ _ _ _ _)
theorem bproj (a : FVec Ideal S128x3072 .fp8e4m3) (b : FVec Ideal S3072x2048 .fp8e4m3) (i : Fin 128) (j : Fin 2048) :
    matmul (F := Ideal) dot_S128x3072_S3072x2048_S128x2048_1_0_0_1_n_n none a b (constant S128x2048 .f32 0x00000000#32) (ix2 i j)
      = ∑ k : Fin 3072, a (ix2 i k) * b (ix2 k j) :=
  (Ideal.matmul_plain_apply (M := 128) (K := 3072) (N := 2048) none a b _ i j).trans
    ((congrArg (· + _) Ideal.ofBits_zero_f32).trans (zero_add _))

section
variable {F : FTy → Type} [FloatOps F]
theorem pay44_eq (x : Vec F S128x3072 .bf16) : k0_pay44 x = x := by unfold k0_pay44; rw [shapeCast_self]
theorem pay45_gen (x : Vec F S128x3072 .bf16) (i : S128x1.Idx) : k0_pay45 x i = FloatOps.mulf (FloatOps.extf .f32 bitsLt_bf16_f32
    (shapeCast S128x1 (multiReduction .maximumf [1] S128 (absf (k0_pay44 x)) 0xFF80#16 reduces_S128x3072_S128 (.inr rfl) rfl) shapeCasts_S128_S128x1 i))
    (Scalar.ofBits .f32 0x3B124925#32) := rfl
theorem pay11_gen (s : Vec F S128x128 .f32) (i : S128x1.Idx) : k0_pay11 s i = FloatOps.rsqrt (FloatOps.addf (FloatOps.mulf
    (shapeCast S128x1 (multiReduction .add [1] S128 s 0x00000000#32 reduces_S128x128_S128 (.inl rfl) rfl) shapeCasts_S128_S128x1 i)
    (Scalar.ofBits .f32 0x38800000#32)) (Scalar.ofBits .f32 0x358637BD#32)) := rfl
theorem pay12_gen (s a : Vec F S128x128 .f32) (i : S128x1.Idx) : k0_pay12 s a i = FloatOps.mulf (FloatOps.mulf
    (shapeCast S128x1 (multiReduction .maximumf [1] S128 a 0xFF800000#32 reduces_S128x128_S128 (.inl rfl) rfl) shapeCasts_S128_S128x1 i)
    (k0_pay11 s i)) (Scalar.ofBits .f32 0x3B124925#32) := rfl
theorem pay127_gen (c : Vec F S128x3072 .fp8e4m3) (w : Vec F S3072x2048 .fp8e4m3) (s : Vec F S128x1 .f32) (ws : Vec F S1x2048 .f32)
    (r : Vec F S128x2048 .bf16) (y : S128x2048.Idx) : k0_pay127 c w s ws r y = FloatOps.truncf .bf16 bitsLt_bf16_f32 (FloatOps.addf
      (FloatOps.mulf (FloatOps.mulf
        (matmul dot_S128x3072_S3072x2048_S128x2048_1_0_0_1_n_n none (shapeCast S128x3072 c shapeCasts_S128x3072_S128x3072) w (constant S128x2048 .f32 0x00000000#32) y)
        (broadcastTo S128x2048 (shapeCast S128x1 s shapeCasts_S128x1_S128x1) broadcasts_S128x1_S128x2048 y))
        (broadcastTo S128x2048 (shapeCast S1x2048 ws shapeCasts_S1x2048_S1x2048) broadcasts_S1x2048_S128x2048 y))
      (FloatOps.extf .f32 bitsLt_bf16_f32 (shapeCast S128x2048 r shapeCasts_S128x2048_S128x2048 y))) := rfl
theorem pay106_gen (rs inv : Vec F S128x128 .f32) (T : Vec F S128x128 .bf16) (g : Vec F S1x128 .bf16) (y : S128x128.Idx) :
    k0_pay106 rs inv T g y = FloatOps.truncf .fp8e4m3 bitsLt_fp8e4m3_f32 (FloatOps.minimumf (Scalar.ofBits .f32 0x43E00000#32)
      (FloatOps.maximumf (Scalar.ofBits .f32 0xC3E00000#32) (FloatOps.mulf (FloatOps.mulf (FloatOps.mulf
        (FloatOps.extf .f32 bitsLt_bf16_f32 (T y)) (rs y))
        (broadcastTo S128x128 (extf .f32 (shapeCast S1x128 g shapeCasts_S1x128_S1x128) bitsLt_bf16_f32) broadcasts_S1x128_S128x128 y)) (inv y)))) := rfl
theorem rsOf_gen (s : Vec F S128x128 .f32) : rsOf s = broadcastTo S128x128 (k0_pay11 s) broadcasts_S128x1_S128x128 := by
  unfold rsOf k0_pay1; simp only [shapeCast_self]
theorem pay2_gen (v : FVec F S128x1 .f32) : k0_pay2 v = broadcastTo S128x128 v broadcasts_S128x1_S128x128 := by
  unfold k0_pay2; simp only [shapeCast_self]
end

theorem pay45_at (x : Vec Ideal S128x3072 .bf16) (i : Fin 128) :
    k0_pay45 (F := Ideal) x (ix2 i 0) = thr (amax fun k : Fin 3072 => x (ix2 i k)) := by
  rw [pay45_gen, bmax3072, pay44_eq, bot16]; unfold thr amax ab; rw [bot32]; rfl

/-- A row's exponent. -/
theorem rexp_eq (x : Vec Ideal S128x3072 .bf16) (i : Fin 128) :
    Pow2.expo (F := Ideal) (k0_pay45 (F := Ideal) x (ix2 i 0)) = rexp fun k : Fin 3072 => x (ix2 i k) := by
  rw [pay45_at]; rfl

theorem xs_at (x : Vec Ideal S128x3072 .bf16) (i : Fin 128) :
    xsOf (F := Ideal) x (ix2 i 0) = Ideal.exp2 (rexp fun k : Fin 3072 => x (ix2 i k)) := by
  rw [xsOf_at, Pow2.scale_eq, rexp_eq]

theorem xc_at (x : Vec Ideal S128x3072 .bf16) (i : Fin 128) (k : Fin 3072) :
    xcOf (F := Ideal) x (ix2 i k) = code (x (ix2 i k) * Ideal.exp2 (0 - rexp fun k : Fin 3072 => x (ix2 i k))) := by
  rw [xcOf_at, Lay.bcol, pay44_eq]
  have e : Pow2.recip (F := Ideal) (k0_pay45 (F := Ideal) x (ix2 ((ix2 i k : S128x3072.Idx) 0) 0))
    = Ideal.exp2 (0 - rexp fun k : Fin 3072 => x (ix2 i k)) := (Pow2.recip_eq _).trans (by rw [← rexp_eq x i]; rfl)
  simp only [e]
  unfold code; rfl

theorem new_at (c : Vec Ideal S128x3072 .fp8e4m3) (w : Vec Ideal S3072x2048 .fp8e4m3) (s : Vec Ideal S128x1 .f32) (ws : Vec Ideal S1x2048 .f32)
    (r : Vec Ideal S128x2048 .bf16) (i : Fin 128) (j : Fin 2048) : newOf (F := Ideal) c w s ws r (ix2 i j)
    = (∑ k : Fin 3072, c (ix2 i k) * w (ix2 k j)) * s (ix2 i 0) * ws (ix2 0 j) + r (ix2 i j) := by
  unfold newOf
  rw [pay127_gen]
  simp only [shapeCast_self]
  rw [Lay.bcol, Lay.brow, bproj]; rfl

/-- Column `128 k + l` of a tile. -/
def lane (k : Fin 16) (l : Fin 128) : Fin 2048 := ⟨128 * k.val + l.val, by omega⟩
/-- Column `2048 n + j` of a row. -/
def tcol (n : Fin 8) (j : Fin 2048) : Fin 16384 := ⟨2048 * n.val + j.val, by omega⟩

theorem wcols_at (w : Vec Ideal S3072x16384 .fp8e4m3) (n : Fin 8) (k : Fin 3072) (j : Fin 2048) :
    wcols (F := Ideal) w n (ix2 k j) = w (ix2 k (tcol n j)) := by
  refine congrArg w (funext fun a => Fin.ext ?_)
  match a with
  | ⟨0, _⟩ => show 0 + 1 * k.val = k.val; omega
  | ⟨1, _⟩ => show 2048 * n.val + 1 * j.val = 2048 * n.val + j.val; omega

theorem gchunk_at (g : Vec Ideal S1x2048 .bf16) (k : Fin 16) (l : Fin 128) : gchunk (F := Ideal) g k (ix2 0 l) = g (ix2 0 (lane k l)) := by
  refine congrArg g (funext fun a => Fin.ext ?_)
  match a with
  | ⟨0, _⟩ => rfl
  | ⟨1, _⟩ => show 128 * k.val + 1 * l.val = 128 * k.val + l.val; omega

theorem tchunk_at (T : Vec Ideal S128x2048 .bf16) (k : Fin 16) (i l : Fin 128) : tchunk (F := Ideal) T k (ix2 i l) = T (ix2 i (lane k l)) := by
  refine congrArg T (funext fun a => Fin.ext ?_)
  match a with
  | ⟨0, _⟩ => show 0 + 1 * i.val = i.val; omega
  | ⟨1, _⟩ => show 128 * k.val + 1 * l.val = 128 * k.val + l.val; omega

theorem nchunk_at (T : Vec Ideal S128x2048 .bf16) (k : Fin 16) (i l : Fin 128) : nchunk (F := Ideal) T k (ix2 i l) = T (ix2 i (lane k l)) := by
  refine congrArg T (funext fun a => Fin.ext ?_)
  match a with
  | ⟨0, _⟩ => show 0 + i.val = i.val; omega
  | ⟨1, _⟩ => show 128 * k.val + l.val = 128 * k.val + l.val; rfl

theorem fin16 : ([0, 1, 2, 3, 4, 5, 6, 7, 8, 9, 10, 11, 12, 13, 14, 15] : List (Fin 16)) = List.finRange 16 := by decide

theorem foldl_addf (f : Fin 16 → FVec Ideal S128x128 .f32) (y : S128x128.Idx) : ∀ (L : List (Fin 16)) (s : FVec Ideal S128x128 .f32),
    (L.foldl (fun acc k => addf acc (f k)) s) y = s y + (L.map fun k => f k y).sum
  | [], s => (add_zero _).symm
  | k :: L, s => by
    rw [List.foldl_cons, foldl_addf f y L, List.map_cons, List.sum_cons, ← add_assoc]; rfl

theorem ssq_at (s : Vec Ideal S128x128 .f32) (T : Vec Ideal S128x2048 .bf16) (i l : Fin 128) :
    ssqOf (F := Ideal) s T (ix2 i l) = s (ix2 i l) + ∑ k : Fin 16, T (ix2 i (lane k l)) * T (ix2 i (lane k l)) := by
  unfold ssqOf
  rw [foldl_addf, fin16, Fin.sum_univ_def]
  have e : ∀ k, mulf (F := Ideal) (nchunk T k) (nchunk T k) (ix2 i l) = T (ix2 i (lane k l)) * T (ix2 i (lane k l)) := fun k => by
    show nchunk (F := Ideal) T k (ix2 i l) * nchunk (F := Ideal) T k (ix2 i l) = _
    rw [nchunk_at]
  simp only [e]

theorem foldl_max_le (f : Fin 16 → FVec Ideal S128x128 .f32) (y : S128x128.Idx) (z : EReal) : ∀ (L : List (Fin 16)) (s : FVec Ideal S128x128 .f32),
    (L.foldl (fun acc k => maximumf acc (f k)) s) y ≤ z ↔ s y ≤ z ∧ ∀ k ∈ L, f k y ≤ z
  | [], s => by simp
  | k :: L, s => by
    rw [List.foldl_cons, foldl_max_le f y z L]
    show max (s y) (f k y) ≤ z ∧ _ ↔ _
    rw [max_le_iff]; simp [and_assoc]

theorem amx_le (s : Vec Ideal S128x128 .f32) (T : Vec Ideal S128x2048 .bf16) (g : Vec Ideal S1x2048 .bf16) (i l : Fin 128) (z : EReal) :
    amxOf (F := Ideal) s T g (ix2 i l) ≤ z ↔ s (ix2 i l) ≤ z ∧ ∀ k : Fin 16, ab (T (ix2 i (lane k l)) * g (ix2 0 (lane k l))) ≤ z := by
  unfold amxOf amxFold
  rw [foldl_max_le, fin16]
  have e : ∀ k, absf (F := Ideal) (mulf (nchunk T k) (broadcastTo S128x128 (extf .f32 (gchunk g k) bitsLt_bf16_f32) broadcasts_S1x128_S128x128)) (ix2 i l)
      = ab (T (ix2 i (lane k l)) * g (ix2 0 (lane k l))) := fun k => by
    show ab (nchunk (F := Ideal) T k (ix2 i l) * broadcastTo S128x128 (extf (F := Ideal) .f32 (gchunk g k) bitsLt_bf16_f32) broadcasts_S1x128_S128x128 (ix2 i l)) = _
    rw [nchunk_at, Lay.brow]
    show ab (_ * gchunk (F := Ideal) g k (ix2 0 l)) = _
    rw [gchunk_at]
  simp only [e, List.mem_finRange, forall_true_left]

/-- The kernel's reciprocal root mean square, of the lanes' sums. -/
def krms (S : EReal) : EReal := Ideal.rsqrt (S * Ideal.ofBits .f32 0x38800000#32 + Ideal.ofBits .f32 0x358637BD#32)

theorem pay11_at (s : Vec Ideal S128x128 .f32) (i : Fin 128) : k0_pay11 (F := Ideal) s (ix2 i 0) = krms (∑ l : Fin 128, s (ix2 i l)) := by
  rw [pay11_gen, bsum128]; rfl

theorem rs_at (s : Vec Ideal S128x128 .f32) (i l : Fin 128) : rsOf (F := Ideal) s (ix2 i l) = krms (∑ l : Fin 128, s (ix2 i l)) := by
  rw [rsOf_gen, Lay.bcol]; exact pay11_at s i

/-- The largest lane of a row. -/
def lmax (a : Vec Ideal S128x128 .f32) (i : Fin 128) : EReal := Finset.univ.fold max ⊥ fun l : Fin 128 => a (ix2 i l)

theorem pay12_at (s a : Vec Ideal S128x128 .f32) (i : Fin 128) :
    k0_pay12 (F := Ideal) s a (ix2 i 0) = thr (lmax a i * krms (∑ l : Fin 128, s (ix2 i l))) := by
  rw [pay12_gen, bmax128, pay11_at, bot32]; rfl

theorem ys_at (s a : Vec Ideal S128x128 .f32) (i : Fin 128) :
    ysOf (F := Ideal) s a (ix2 i 0) = Ideal.exp2 (Pow2.expo (F := Ideal) (thr (lmax a i * krms (∑ l : Fin 128, s (ix2 i l))))) := by
  rw [ysOf_at, Pow2.scale_eq, pay12_at]

theorem inv_at (s a : Vec Ideal S128x128 .f32) (i l : Fin 128) :
    invOf (F := Ideal) s a (ix2 i l) = Ideal.exp2 (0 - Pow2.expo (F := Ideal) (thr (lmax a i * krms (∑ l : Fin 128, s (ix2 i l))))) := by
  unfold invOf
  rw [pay2_gen, Lay.bcol, yrecip]
  refine (Pow2.recip_eq _).trans ?_
  rw [← pay12_at]; rfl

theorem yc_at (rs inv : Vec Ideal S128x128 .f32) (T : Vec Ideal S128x2048 .bf16) (g : Vec Ideal S1x2048 .bf16) (i : Fin 128) (j : Fin 2048) :
    ∃ l : Fin 128, ycTile (F := Ideal) rs inv T g (ix2 i j) = code (T (ix2 i j) * rs (ix2 i l) * g (ix2 0 j) * inv (ix2 i l)) := by
  have hk : j.val / 128 < 16 := by omega
  have hj : lane ⟨j.val / 128, hk⟩ ⟨j.val % 128, Nat.mod_lt _ (by decide)⟩ = j := Fin.ext (by show 128 * (j.val / 128) + j.val % 128 = j.val; omega)
  refine ⟨⟨j.val % 128, Nat.mod_lt _ (by decide)⟩, ?_⟩
  have e : ycTile (F := Ideal) rs inv T g (ix2 i j) = k0_pay106 (F := Ideal) rs inv (tchunk T ⟨j.val / 128, hk⟩) (gchunk g ⟨j.val / 128, hk⟩)
    (ix2 i ⟨j.val % 128, Nat.mod_lt _ (by decide)⟩) := rfl
  rw [e, pay106_gen, shapeCast_self, Lay.brow, tchunk_at, hj]
  have eg : gchunk (F := Ideal) g ⟨j.val / 128, hk⟩ (ix2 0 ⟨j.val % 128, Nat.mod_lt _ (by decide)⟩) = g (ix2 0 j) := by rw [gchunk_at, hj]
  rw [← eg]
  unfold code; rfl

end Cert.KernelIdeal.K
-- ==== Proof.KI.Arrays.lean ====
module

public import proofs.«01_k».proof.Proof.KI.Final
public import proofs.«01_k».proof.Proof.KI.Elem

/-! The blocks staged at each grid point, as parts of the argument arrays. -/

@[expose] public section

set_option maxRecDepth 16384

noncomputable section

namespace Cert.KernelIdeal.K

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The five argument arrays as the region finds them. -/
def aX (c : Dev nD) : Vec F S12288x3072 .bf16 := V m c (Pipeline.arrRef spec0 0)
def aW (c : Dev nD) : Vec F S3072x16384 .fp8e4m3 := V m c (Pipeline.arrRef spec0 1)
def aS (c : Dev nD) : Vec F S1x16384 .f32 := V m c (Pipeline.arrRef spec0 2)
def aR (c : Dev nD) : Vec F S12288x16384 .bf16 := V m c (Pipeline.arrRef spec0 3)
def aG (c : Dev nD) : Vec F S1x16384 .bf16 := V m c (Pipeline.arrRef spec0 4)

/-- Row `128 b + a` of an array. -/
def arow (b : Fin 96) (a : Fin 128) : Fin 12288 := ⟨128 * b.val + a.val, by omega⟩

theorem bx_at (c : Dev nD) (b : Fin 96) (a : Fin 128) (k : Fin 3072) :
    (blocks m c).x (8 * b.val) (ix2 a k) = aX m c (ix2 (arow b a) k) := by
  have ht : (pt (8 * b.val)).val = 8 * b.val := Nat.mod_eq_of_lt (by omega)
  have hi : win0_0.index (pt (8 * b.val)) = ![b.val, 0] := by
    rw [ix0, ht, show min (8 * b.val / 8) 95 = b.val by omega]
  show iblk m c 0 (pt (8 * b.val)) (ix2 a k) = _
  unfold aX
  blk_ext [iblk, hi, arow]

theorem bw_at (c : Dev nD) (t : ℕ) : (blocks m c).w t = aW m c := by
  show iblk m c 1 (pt t) = _
  funext y; unfold aW; blk_ext [iblk, ix1']

theorem bs_at (c : Dev nD) (t : ℕ) (n : Fin 8) (h : (pt t).val % 8 = n.val) (j : Fin 2048) :
    (blocks m c).ws t (ix2 0 j) = aS m c (ix2 0 (tcol n j)) := by
  have hi : win0_2.index (pt t) = ![0, n.val] := by rw [ix2', h]
  show iblk m c 2 (pt t) (ix2 0 j) = _
  unfold aS
  blk_ext [iblk, hi, tcol]

theorem bg_at (c : Dev nD) (t : ℕ) (n : Fin 8) (h : (pt t).val % 8 = n.val) (j : Fin 2048) :
    (blocks m c).g t (ix2 0 j) = aG m c (ix2 0 (tcol n j)) := by
  have hi : win0_4.index (pt t) = ![0, n.val] := by rw [ix4', h]
  show iblk m c 4 (pt t) (ix2 0 j) = _
  unfold aG
  blk_ext [iblk, hi, tcol]

theorem br_at (c : Dev nD) (b : Fin 96) (n : Fin 8) (a : Fin 128) (j : Fin 2048) :
    (blocks m c).res (8 * b.val + n.val) (ix2 a j) = aR m c (ix2 (arow b a) (tcol n j)) := by
  have ht : (pt (8 * b.val + n.val)).val = 8 * b.val + n.val := Nat.mod_eq_of_lt (by omega)
  have hi : win0_3.index (pt (8 * b.val + n.val)) = ![b.val, n.val] := by
    rw [ix3', ht, show min ((8 * b.val + n.val) / 8) 95 = b.val by omega, if_neg (by omega), show (8 * b.val + n.val) % 8 = n.val by omega]
  show iblk m c 3 (pt (8 * b.val + n.val)) (ix2 a j) = _
  unfold aR
  blk_ext [iblk, hi, arow, tcol]

end Cert.KernelIdeal.K
-- ==== Proof.A.Rows.lean ====
module

public import proofs.«01_k».proof.Proof.A.Spec

/-! A row's two statistics, taken at once over its projected values and taken piecewise: the sum of squares over 8 tiles of 16
chunks of 128 lanes, and the largest `|r g|`, scaled afterwards by the reciprocal root mean square. -/

@[expose] public section

noncomputable section

namespace Cert.Rows

open Idealize.ShloMosaic
open Cert.Spec (ab amax rrms nrm)

/-- Column `2048 n + 128 k + l` of a row. -/
def col (n : Fin 8) (k : Fin 16) (l : Fin 128) : Fin 16384 := ⟨2048 * n.val + (128 * k.val + l.val), by omega⟩

/-- Every column is one of these. -/
theorem col_surj (j : Fin 16384) : ∃ n k l, j = col n k l :=
  ⟨⟨j.val / 2048, by omega⟩, ⟨j.val % 2048 / 128, by omega⟩, ⟨j.val % 128, by omega⟩, Fin.ext (by show j.val = 2048 * (j.val / 2048) + (128 * (j.val % 2048 / 128) + j.val % 128); omega)⟩

/-- A sum by tiles, chunks and lanes is the sum over the row. -/
theorem sum_col (f : Fin 16384 → EReal) : ∑ l : Fin 128, ∑ n : Fin 8, ∑ k : Fin 16, f (col n k l) = ∑ j, f j := by
  rw [Finset.sum_comm]
  have e : ∀ n : Fin 8, ∑ l : Fin 128, ∑ k : Fin 16, f (col n k l) = ∑ p : Fin 16 × Fin 128, f (col n p.1 p.2) := fun n => by
    rw [Finset.sum_comm, ← Fintype.sum_prod_type' (fun k l => f (col n k l))]
  simp only [e]
  rw [← Fintype.sum_prod_type' (fun n (p : Fin 16 × Fin 128) => f (col n p.1 p.2))]
  refine Fintype.sum_bijective (fun q : Fin 8 × Fin 16 × Fin 128 => col q.1 q.2.1 q.2.2) ⟨?_, ?_⟩ _ _ fun _ => rfl
  · rintro ⟨n, k, l⟩ ⟨n', k', l'⟩ h
    have h : 2048 * n.val + (128 * k.val + l.val) = 2048 * n'.val + (128 * k'.val + l'.val) := congrArg Fin.val h
    have h1 : n = n' := Fin.ext (by omega)
    have h2 : k = k' := Fin.ext (by omega)
    have h3 : l = l' := Fin.ext (by omega)
    rw [h1, h2, h3]
  · intro j
    obtain ⟨n, k, l, h⟩ := col_surj j
    exact ⟨(n, k, l), h.symm⟩

theorem c16384 : Ideal.ofBits .f32 0x46800000#32 = ((16384 : ℝ) : EReal) := by
  simp [Ideal.ofBits, Ideal.ieee, -EReal.coe_mul, -EReal.coe_pow]; norm_num
theorem cinv : Ideal.ofBits .f32 0x38800000#32 = ((1 / 16384 : ℝ) : EReal) := by
  simp [Ideal.ofBits, Ideal.ieee, -EReal.coe_mul, -EReal.coe_pow]; norm_num
theorem ceps : 0 ≤ Ideal.ofBits .f32 0x358637BD#32 := by
  simp [Ideal.ofBits, Ideal.ieee, -EReal.coe_mul, -EReal.coe_pow]

/-- Dividing by the row's length is multiplying by its reciprocal. -/
theorem div_len (s : EReal) : Ideal.div s (Ideal.ofBits .f32 0x46800000#32) = s * Ideal.ofBits .f32 0x38800000#32 := by
  rw [c16384, cinv]
  unfold Ideal.div
  rw [if_neg (by norm_num), ← EReal.coe_inv]; norm_num

theorem sq_nonneg (a : EReal) : 0 ≤ a * a := by
  rcases le_total 0 a with h | h
  · exact mul_nonneg h h
  · have := EReal.neg_le_neg_iff.mpr h
    rw [neg_zero] at this
    rw [← neg_mul_neg]; exact mul_nonneg this this

theorem rsqrt_nonneg {x : EReal} (h : 0 ≤ x) : 0 ≤ Ideal.rsqrt x := by
  induction x with
  | bot => exact absurd h (by simp)
  | top => exact le_refl _
  | coe r =>
    have h : 0 ≤ r := EReal.coe_nonneg.mp h
    show 0 ≤ (if r < 0 then (⊥ : EReal) else if r = 0 then ⊤ else (((Real.sqrt r)⁻¹ : ℝ) : EReal))
    rw [if_neg (not_lt.mpr h)]
    split
    · exact le_top
    · exact EReal.coe_nonneg.mpr (inv_nonneg.mpr (Real.sqrt_nonneg r))

/-- The reciprocal root mean square, with the division as a multiplication. -/
theorem rrms_eq (v : Fin 16384 → EReal) :
    rrms v = Ideal.rsqrt ((∑ j, v j * v j) * Ideal.ofBits .f32 0x38800000#32 + Ideal.ofBits .f32 0x358637BD#32) := by
  unfold rrms; rw [div_len]

theorem rrms_nonneg (v : Fin 16384 → EReal) : 0 ≤ rrms v := by
  rw [rrms_eq]
  refine rsqrt_nonneg (add_nonneg (mul_nonneg (Finset.sum_nonneg fun j _ => sq_nonneg _) ?_) ceps)
  rw [cinv]; exact EReal.coe_nonneg.mpr (by norm_num)

/-- A magnitude scaled by a nonnegative factor. -/
theorem ab_mul (x : EReal) {r : EReal} (hr : 0 ≤ r) : ab (x * r) = ab x * r := by
  unfold ab
  rw [← EReal.neg_mul]
  have mono : ∀ {p q : EReal}, p ≤ q → p * r ≤ q * r := fun h => mul_le_mul_of_nonneg_right h hr
  rcases le_total x (-x) with h | h
  · rw [max_eq_right h, max_eq_right (mono h)]
  · rw [max_eq_left h, max_eq_left (mono h)]

theorem ab_nonneg (x : EReal) : 0 ≤ ab x := by
  unfold ab
  rcases le_total 0 x with h | h
  · exact le_max_of_le_left h
  · refine le_max_of_le_right ?_
    have := EReal.neg_le_neg_iff.mpr h
    rwa [neg_zero] at this

theorem amax_le {N : ℕ} (v : Fin N → EReal) (z : EReal) : amax v ≤ z ↔ ∀ k, ab (v k) ≤ z := by
  unfold amax
  rw [Finset.fold_max_le]
  have : Ideal.ofBits .f32 0xFF800000#32 = ⊥ := by simp [Ideal.ofBits, Ideal.ieee]
  rw [this]; simp

/-- The largest magnitude of the normalised row is the largest `|r g|` scaled by the row's factor. -/
theorem amax_nrm (v g : Fin 16384 → EReal) (A : EReal) (hA : ∀ z, A ≤ z ↔ 0 ≤ z ∧ ∀ j, ab (v j * g j) ≤ z) :
    A * rrms v = amax (nrm v g) := by
  have e : ∀ j, ab (nrm v g j) = ab (v j * g j) * rrms v := fun j => by
    rw [← ab_mul _ (rrms_nonneg v)]; unfold nrm; rw [mul_right_comm]
  obtain ⟨j0, -, h0⟩ := Finset.exists_max_image (Finset.univ : Finset (Fin 16384)) (fun j => ab (v j * g j)) ⟨0, Finset.mem_univ _⟩
  have hA0 : A = ab (v j0 * g j0) :=
    le_antisymm ((hA _).mpr ⟨ab_nonneg _, fun j => h0 j (Finset.mem_univ _)⟩) (((hA A).mp (le_refl _)).2 j0)
  refine le_antisymm ?_ ((amax_le _ _).mpr fun j => ?_)
  · rw [hA0, ← e]; exact (amax_le _ _).mp (le_refl _) j0
  · rw [e]; exact mul_le_mul_of_nonneg_right (((hA A).mp (le_refl _)).2 j) (rrms_nonneg v)

end Cert.Rows
-- ==== Proof.KI.Value.lean ====
module

public import proofs.«01_k».proof.Proof.KI.Arrays
public import proofs.«01_k».proof.Proof.A.Rows

/-! The kernel's five results over extended reals, element by element: they are the mathematics of `Cert.Spec` at the
kernel's argument arrays. -/

@[expose] public section

set_option maxRecDepth 16384

noncomputable section

namespace Cert.KernelIdeal.K

open Cert.KernelIdeal Cert.KernelIdeal.Gen
open Idealize.ShloMosaic Idealize.ShloMosaic.TcCoe Idealize.SL.Sem
open Cert.Spec (ab amax thr code rexp nrm rrms)

variable (m : (ℓ : Loc nD τ sig) → Buf (Elt Ideal) ℓ) (c : Dev nD)

/-- A row of the residual stream, and the normalisation's weights. -/
def row (b : Fin 96) (a : Fin 128) : Fin 16384 → EReal := Spec.ro (aX m c) (aW m c) (aS m c) (aR m c) (arow b a)
def gw : Fin 16384 → EReal := fun j => aG m c (ix2 0 j)

theorem XC_at (b : Fin 96) (a : Fin 128) (k : Fin 3072) : XC (blocks m c) b.val (ix2 a k) = Spec.xc (aX m c) (arow b a) k := by
  unfold XC
  rw [xc_at]
  simp only [bx_at]
  rfl

theorem XS_at (b : Fin 96) (a : Fin 128) : XS (blocks m c) b.val (ix2 a 0) = Spec.xs (aX m c) (arow b a) := by
  unfold XS
  rw [xs_at]
  simp only [bx_at]
  rfl

theorem pt_mod (b : Fin 97) (n : Fin 8) : (pt (8 * b.val + n.val)).val % 8 = n.val := by
  have ht : (pt (8 * b.val + n.val)).val = 8 * b.val + n.val := Nat.mod_eq_of_lt (by omega)
  rw [ht]; omega

theorem NEW_at (b : Fin 96) (n : Fin 8) (a : Fin 128) (j : Fin 2048) :
    NEW (blocks m c) (8 * b.val + n.val) (ix2 a j) = row m c b a (tcol n j) := by
  unfold NEW
  have hb : (8 * b.val + n.val) / 8 = b.val := by omega
  have hn : nt (8 * b.val + n.val) = n := Fin.ext (by show (8 * b.val + n.val) % 8 = n.val; omega)
  rw [new_at, hb, hn, bs_at m c _ n (pt_mod ⟨b.val, by omega⟩ n), br_at, XS_at]
  simp only [XC_at, wcols_at, bw_at]
  rfl

theorem zero3 (y : S128x128.Idx) : k0_pay3 (F := Ideal) y = 0 := by
  unfold k0_pay3; rw [shapeCast_self]; exact Ideal.ofBits_zero_f32
theorem zero4 (y : S128x128.Idx) : k0_pay4 (F := Ideal) y = 0 := by
  unfold k0_pay4; rw [shapeCast_self]; exact Ideal.ofBits_zero_f32

theorem tcol_lane (n : Fin 8) (k : Fin 16) (l : Fin 128) : tcol n (lane k l) = Rows.col n k l := rfl

/-- The sums of squares after `q` tiles. -/
theorem SSQ_at (b : Fin 96) (a l : Fin 128) : ∀ q ≤ 8, SSQ (blocks m c) b.val q (ix2 a l)
    = ∑ n : Fin 8, if n.val < q then ∑ k : Fin 16, row m c b a (Rows.col n k l) * row m c b a (Rows.col n k l) else 0
  | 0, _ => by
    show k0_pay3 (F := Ideal) _ = _
    rw [zero3]; simp
  | q + 1, h => by
    have hq : q < 8 := h
    show ssqOf (SSQ (blocks m c) b.val q) (NEW (blocks m c) (8 * b.val + q)) (ix2 a l) = _
    rw [ssq_at, SSQ_at b a l q (by omega)]
    have e := fun j => NEW_at m c b ⟨q, hq⟩ a j
    simp only [e, tcol_lane]
    have s : ∀ n : Fin 8, (if n.val < q + 1 then ∑ k : Fin 16, row m c b a (Rows.col n k l) * row m c b a (Rows.col n k l) else 0)
        = (if n.val < q then ∑ k : Fin 16, row m c b a (Rows.col n k l) * row m c b a (Rows.col n k l) else 0)
          + if n = ⟨q, hq⟩ then ∑ k : Fin 16, row m c b a (Rows.col n k l) * row m c b a (Rows.col n k l) else 0 := fun n => by
      by_cases h1 : n = ⟨q, hq⟩
      · subst h1; rw [if_pos (Nat.lt_succ_self q), if_neg (lt_irrefl q), if_pos rfl, zero_add]
      · have : n.val ≠ q := fun h => h1 (Fin.ext h)
        rw [if_neg h1, add_zero]; congr 1; exact propext (by omega)
    simp only [s]
    rw [Finset.sum_add_distrib, Finset.sum_ite_eq' Finset.univ, if_pos (Finset.mem_univ _)]

/-- The lanes' sums of squares add to the row's. -/
theorem SSQ_sum (b : Fin 96) (a : Fin 128) :
    ∑ l : Fin 128, SSQ (blocks m c) b.val 8 (ix2 a l) = ∑ j, row m c b a j * row m c b a j := by
  rw [← Rows.sum_col]
  refine Finset.sum_congr rfl fun l _ => ?_
  rw [SSQ_at m c b a l 8 (le_refl _)]
  exact Finset.sum_congr rfl fun n _ => if_pos n.isLt

theorem rms_at (b : Fin 96) (a : Fin 128) : krms (∑ l : Fin 128, SSQ (blocks m c) b.val 8 (ix2 a l)) = rrms (row m c b a) := by
  rw [SSQ_sum, Rows.rrms_eq]; rfl

/-- The magnitudes after `q` tiles. -/
theorem AMX_le (b : Fin 96) (a l : Fin 128) (z : EReal) : ∀ q ≤ 8, AMX (blocks m c) b.val q (ix2 a l) ≤ z
    ↔ 0 ≤ z ∧ ∀ n : Fin 8, n.val < q → ∀ k : Fin 16, ab (row m c b a (Rows.col n k l) * gw m c (Rows.col n k l)) ≤ z
  | 0, _ => by
    show k0_pay4 (F := Ideal) _ ≤ z ↔ _
    rw [zero4]; simp
  | q + 1, h => by
    have hq : q < 8 := h
    show amxOf (AMX (blocks m c) b.val q) (NEW (blocks m c) (8 * b.val + q)) ((blocks m c).g (8 * b.val + q)) (ix2 a l) ≤ z ↔ _
    rw [amx_le, AMX_le b a l z q (by omega)]
    have e := fun j => NEW_at m c b ⟨q, hq⟩ a j
    have e' := fun j => bg_at m c (8 * b.val + q) ⟨q, hq⟩ (pt_mod ⟨b.val, by omega⟩ ⟨q, hq⟩) j
    simp only [e, e', tcol_lane]
    constructor
    · rintro ⟨⟨h0, h1⟩, h2⟩
      refine ⟨h0, fun n hn k => ?_⟩
      rcases Nat.lt_succ_iff_lt_or_eq.mp hn with h | h
      · exact h1 n h k
      · have : n = ⟨q, hq⟩ := Fin.ext h
        subst this; exact h2 k
    · rintro ⟨h0, h1⟩
      exact ⟨⟨h0, fun n hn k => h1 n (Nat.lt_succ_of_lt hn) k⟩, fun k => h1 ⟨q, hq⟩ (Nat.lt_succ_self q) k⟩

/-- The largest lane, scaled, is the largest magnitude of the normalised row. -/
theorem amax_at (b : Fin 96) (a : Fin 128) :
    lmax (AMX (blocks m c) b.val 8) a * rrms (row m c b a) = amax (nrm (row m c b a) (gw m c)) := by
  refine Rows.amax_nrm _ _ _ fun z => ?_
  unfold lmax
  rw [Finset.fold_max_le]
  constructor
  · rintro ⟨-, h⟩
    refine ⟨((AMX_le m c b a 0 z 8 (le_refl _)).mp (h 0 (Finset.mem_univ _))).1, fun j => ?_⟩
    obtain ⟨n, k, l, rfl⟩ := Rows.col_surj j
    exact ((AMX_le m c b a l z 8 (le_refl _)).mp (h l (Finset.mem_univ _))).2 n n.isLt k
  · rintro ⟨h0, h⟩
    exact ⟨bot_le, fun l _ => (AMX_le m c b a l z 8 (le_refl _)).mpr ⟨h0, fun n _ k => h _⟩⟩

theorem YS_at (b : Fin 96) (a : Fin 128) :
    YS (blocks m c) b.val (ix2 a 0) = Spec.ys (aX m c) (aW m c) (aS m c) (aR m c) (aG m c) (arow b a) := by
  unfold YS
  rw [ys_at, rms_at, amax_at]
  rfl

theorem YC_at (b : Fin 96) (n : Fin 8) (a : Fin 128) (j : Fin 2048) :
    YC (blocks m c) (8 * b.val + n.val + 8) (ix2 a j)
      = Spec.yc (aX m c) (aW m c) (aS m c) (aR m c) (aG m c) (arow b a) (tcol n j) := by
  unfold YC
  have hb : (8 * b.val + n.val + 8) / 8 - 1 = b.val := by omega
  have hn : 8 * b.val + n.val + 8 - 8 = 8 * b.val + n.val := by omega
  have hp : (pt (8 * b.val + n.val + 8)).val % 8 = n.val := by
    rw [show 8 * b.val + n.val + 8 = 8 * (b.val + 1) + n.val by omega]
    exact pt_mod ⟨b.val + 1, by omega⟩ n
  rw [hb, hn]
  obtain ⟨l, e⟩ := yc_at (RS (blocks m c) b.val) (INV (blocks m c) b.val) (NEW (blocks m c) (8 * b.val + n.val)) ((blocks m c).g (8 * b.val + n.val + 8)) a j
  rw [e, NEW_at, bg_at m c _ n hp]
  unfold RS INV
  rw [rs_at, inv_at, rms_at, amax_at]
  rfl

/-- An array row and column, by block and place. -/
theorem arow_eq (i : Fin 12288) : arow ⟨i.val / 128, by omega⟩ (inRow i) = i :=
  Fin.ext (by show 128 * (i.val / 128) + i.val % 128 = i.val; omega)
theorem tcol_eq (j : Fin 16384) : tcol ⟨j.val / 2048, by omega⟩ (inCol j) = j :=
  Fin.ext (by show 2048 * (j.val / 2048) + j.val % 2048 = j.val; omega)

/-- The five results at an element. -/
theorem G5_at (i : Fin 12288) (j : Fin 16384) : G5 m c (ix2 i j) = Spec.ro (aX m c) (aW m c) (aS m c) (aR m c) i j := by
  have h := NEW_at m c ⟨i.val / 128, by omega⟩ ⟨j.val / 2048, by omega⟩ (inRow i) (inCol j)
  unfold row at h
  rw [arow_eq, tcol_eq] at h
  exact h
theorem G6_at (i : Fin 12288) (k : Fin 3072) : G6 m c (ix2 i k) = Spec.xc (aX m c) i k := by
  have h := XC_at m c ⟨i.val / 128, by omega⟩ (inRow i) k
  rw [arow_eq] at h
  exact h
theorem G7_at (i : Fin 12288) : G7 m c (ix2 i 0) = Spec.xs (aX m c) i := by
  have h := XS_at m c ⟨i.val / 128, by omega⟩ (inRow i)
  rw [arow_eq] at h
  exact h
theorem G8_at (i : Fin 12288) (j : Fin 16384) : G8 m c (ix2 i j) = Spec.yc (aX m c) (aW m c) (aS m c) (aR m c) (aG m c) i j := by
  have h := YC_at m c ⟨i.val / 128, by omega⟩ ⟨j.val / 2048, by omega⟩ (inRow i) (inCol j)
  rw [arow_eq, tcol_eq] at h
  exact h
theorem G9_at (i : Fin 12288) : G9 m c (ix2 i 0) = Spec.ys (aX m c) (aW m c) (aS m c) (aR m c) (aG m c) i := by
  have h := YS_at m c ⟨i.val / 128, by omega⟩ (inRow i)
  rw [arow_eq] at h
  exact h

end Cert.KernelIdeal.K
-- ==== Proof.KI.Entry.lean ====
module

public import proofs.«01_k».proof.Proof.KI.Arrays
public import Idealize.ShloMosaic.Lib.Claim
public import Idealize.ShloMosaic.Lib.Pipeline.ValueKit

/-! The kernel's argument arrays as its region finds them, and its run with every result named. -/

@[expose] public section

noncomputable section

namespace Cert.KernelIdeal.K

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The arrays the region finds are the arguments, reshaped. -/
theorem aX_arg (c : Dev nD) : aX m c = shapeCast S12288x3072 (m ((c : Thread nD τ).loc main_arg0)) shapeCasts_S2x6144x3072_S12288x3072 := by
  unfold aX; show V m c main_v0 = _; entry_read; rfl
theorem aW_arg (c : Dev nD) : aW m c = m ((c : Thread nD τ).loc main_arg1) := V_main_arg1 m c
theorem aS_arg (c : Dev nD) : aS m c = shapeCast S1x16384 (m ((c : Thread nD τ).loc main_arg2)) shapeCasts_S16384_S1x16384 := by
  unfold aS; show V m c main_v1 = _; entry_read; rfl
theorem aR_arg (c : Dev nD) : aR m c = shapeCast S12288x16384 (m ((c : Thread nD τ).loc main_arg3)) shapeCasts_S2x6144x16384_S12288x16384 := by
  unfold aR; show V m c main_v2 = _; entry_read; rfl
theorem aG_arg (c : Dev nD) : aG m c = shapeCast S1x16384 (m ((c : Thread nD τ).loc main_arg4)) shapeCasts_S16384_S1x16384 := by
  unfold aG; show V m c main_v3 = _; entry_read; rfl

/-- Every run ends with the five results as named and the arguments unchanged. -/
theorem run_results : θ_run defs (onTc (τ := τ) (main (F := F))) ⟨m, fun _ => 0, ρ⟩ fun r => ∀ c : Dev nD,
      r.2.mem ((c : Thread nD τ).loc main_v4_0) = G5 m c
      ∧ r.2.mem ((c : Thread nD τ).loc main_v4_1) = G6 m c
      ∧ r.2.mem ((c : Thread nD τ).loc main_v4_2) = G7 m c
      ∧ r.2.mem ((c : Thread nD τ).loc main_v4_3) = G8 m c
      ∧ r.2.mem ((c : Thread nD τ).loc main_v4_4) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (fin5 m c),
    ((h c).1 6).trans (fin6 m c),
    ((h c).1 7).trans (fin7 m c),
    ((h c).1 8).trans (fin8 m c),
    ((h c).1 9).trans (fin9 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.KernelIdeal.K
-- ==== Proof.R.Final.lean ====
module

public import proofs.«01_k».proof.Proof.Gen.ReferenceIdeal.Frame
public import Idealize.ShloMosaic.Lib.Pipeline.ValueKit

/-! The reference's run: what its five results hold after it, as functions of its argument arrays. -/

@[expose] public section

noncomputable section

namespace Cert.ReferenceIdeal.R

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_4) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-- The five argument arrays as the region finds them. -/
def aX (c : Dev nD) : Vec F S12288x3072 .bf16 := V m c (Pipeline.arrRef spec0 0)
def aW (c : Dev nD) : Vec F S3072x16384 .fp8e4m3 := V m c (Pipeline.arrRef spec0 1)
def aS (c : Dev nD) : Vec F S1x16384 .f32 := V m c (Pipeline.arrRef spec0 2)
def aR (c : Dev nD) : Vec F S12288x16384 .bf16 := V m c (Pipeline.arrRef spec0 3)
def aG (c : Dev nD) : Vec F S1x16384 .bf16 := V m c (Pipeline.arrRef spec0 4)

/-- The one point's window is at the array's start. -/
theorem idx0 : win0_0.index t0_0 = ![0, 0] := by decide +kernel
theorem idx1 : win0_1.index t0_0 = ![0, 0] := by decide +kernel
theorem idx2 : win0_2.index t0_0 = ![0, 0] := by decide +kernel
theorem idx3 : win0_3.index t0_0 = ![0, 0] := by decide +kernel
theorem idx4 : win0_4.index t0_0 = ![0, 0] := by decide +kernel

theorem blk0 (c : Dev nD) : iblk m c 0 t0_0 = aX m c := by
  funext y; unfold aX; blk_ext [iblk, idx0]
theorem blk1 (c : Dev nD) : iblk m c 1 t0_0 = aW m c := by
  funext y; unfold aW; blk_ext [iblk, idx1]
theorem blk2 (c : Dev nD) : iblk m c 2 t0_0 = aS m c := by
  funext y; unfold aS; blk_ext [iblk, idx2]
theorem blk3 (c : Dev nD) : iblk m c 3 t0_0 = aR m c := by
  funext y; unfold aR; blk_ext [iblk, idx3]
theorem blk4 (c : Dev nD) : iblk m c 4 t0_0 = aG m c := by
  funext y; unfold aG; blk_ext [iblk, idx4]

/-- The residual stream after the run. -/
theorem fin5 (c : Dev nD) : (dats m 0 c).arrAt 5 cfg0.N = k0_pay8 (k0_pay7 (aX m c) (aW m c) (aS m c)) (aR m c) := by
  refine (dats m 0 c).arrAt_eq_of_after_last 5 t0_0 (by decide +kernel) _ fun j => ?_
  blk_simp
  rw [after0_5]
  unfold_out out0_5
  frame_out
  rw [blk0, blk1, blk2, blk3]
theorem fin6 (c : Dev nD) : (dats m 0 c).arrAt 6 cfg0.N = k0_pay5 (aX m c) := by
  refine (dats m 0 c).arrAt_eq_of_after_last 6 t0_0 (by decide +kernel) _ fun j => ?_
  blk_simp
  rw [after0_6]
  frame_out
  rw [blk0]
theorem fin7 (c : Dev nD) : (dats m 0 c).arrAt 7 cfg0.N = k0_pay6 (aX m c) := by
  refine (dats m 0 c).arrAt_eq_of_after_last 7 t0_0 (by decide +kernel) _ fun j => ?_
  blk_simp
  rw [after0_7]
  frame_out
  rw [blk0]
theorem fin8 (c : Dev nD) : (dats m 0 c).arrAt 8 cfg0.N
    = k0_pay1 (Scalar.ofBits .f32 0x43E00000#32) (k0_pay11 (k0_pay7 (aX m c) (aW m c) (aS m c)) (aR m c) (aG m c)) := by
  refine (dats m 0 c).arrAt_eq_of_after_last 8 t0_0 (by decide +kernel) _ fun j => ?_
  blk_simp
  rw [after0_8]
  unfold_out out0_8
  frame_out
  rw [blk0, blk1, blk2, blk3, blk4]
theorem fin9 (c : Dev nD) : (dats m 0 c).arrAt 9 cfg0.N
    = k0_pay2 (k0_pay10 (k0_pay7 (aX m c) (aW m c) (aS m c)) (aR m c) (aG m c)) := by
  refine (dats m 0 c).arrAt_eq_of_after_last 9 t0_0 (by decide +kernel) _ fun j => ?_
  blk_simp
  rw [after0_9]
  unfold_out out0_9
  frame_out
  rw [blk0, blk1, blk2, blk3, blk4]

end Cert.ReferenceIdeal.R
-- ==== Proof.R.Entry.lean ====
module

public import proofs.«01_k».proof.Proof.R.Final
public import Idealize.ShloMosaic.Lib.Claim
public import Idealize.ShloMosaic.Lib.Pipeline.ValueKit

/-! The reference's argument arrays as its region finds them. -/

@[expose] public section

noncomputable section

namespace Cert.ReferenceIdeal.R

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The arrays the region finds are the arguments, reshaped. -/
theorem aX_arg (c : Dev nD) : aX m c = shapeCast S12288x3072 (m ((c : Thread nD τ).loc main_arg0)) shapeCasts_S2x6144x3072_S12288x3072 := by
  unfold aX; show V m c main_v0 = _; entry_read; rfl
theorem aW_arg (c : Dev nD) : aW m c = m ((c : Thread nD τ).loc main_arg1) := V_main_arg1 m c
theorem aS_arg (c : Dev nD) : aS m c = shapeCast S1x16384 (m ((c : Thread nD τ).loc main_arg2)) shapeCasts_S16384_S1x16384 := by
  unfold aS; show V m c main_v1 = _; entry_read; rfl
theorem aR_arg (c : Dev nD) : aR m c = shapeCast S12288x16384 (m ((c : Thread nD τ).loc main_arg3)) shapeCasts_S2x6144x16384_S12288x16384 := by
  unfold aR; show V m c main_v2 = _; entry_read; rfl
theorem aG_arg (c : Dev nD) : aG m c = shapeCast S1x16384 (m ((c : Thread nD τ).loc main_arg4)) shapeCasts_S16384_S1x16384 := by
  unfold aG; show V m c main_v3 = _; entry_read; rfl

end Cert.ReferenceIdeal.R
-- ==== Proof.A.Alg.lean ====
module

public import proofs.«01_k».proof.Defs
public import proofs.«01_k».proof.Proof.KI.Value
public import proofs.«01_k».proof.Proof.KI.Entry
public import proofs.«01_k».proof.Proof.R.Entry

/-! Over extended reals the kernel and the reference, run on the same arguments, end with the same five results. -/

@[expose] public section

noncomputable section

namespace Cert.Alg

open Idealize.ShloMosaic Idealize.ShloMosaic.TcCoe Idealize.SL.Sem

/-- Two arrays with equal elements are equal. -/
theorem ext2 {α : Type} {M N : ℕ} {f g : Shape.Idx ⟨2, ![M, N]⟩ → α} (h : ∀ i j, f (ix2 i j) = g (ix2 i j)) : f = g := by
  funext y; rw [eq_ix2 y]; exact h _ _

/-- Two one-column arrays with equal elements are equal. -/
theorem ext1 {α : Type} {M : ℕ} {f g : Shape.Idx ⟨2, ![M, 1]⟩ → α} (h : ∀ i, f (ix2 i 0) = g (ix2 i 0)) : f = g :=
  ext2 fun i j => by rw [Subsingleton.elim j 0]; exact h i

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Equal arguments are equal arrays at the regions. -/
theorem aX_eq (h : m' ((c.tc : Thread ReferenceIdeal.nD ReferenceIdeal.τ).loc ReferenceIdeal.main_arg0) = m ((c.tc : Thread KernelIdeal.nD KernelIdeal.τ).loc KernelIdeal.main_arg0)) :
    ReferenceIdeal.R.aX m' c = KernelIdeal.K.aX m c := by
  refine (ReferenceIdeal.R.aX_arg m' c).trans (Eq.trans ?_ (KernelIdeal.K.aX_arg m c).symm); rw [h]
theorem aW_eq (h : m' ((c.tc : Thread ReferenceIdeal.nD ReferenceIdeal.τ).loc ReferenceIdeal.main_arg1) = m ((c.tc : Thread KernelIdeal.nD KernelIdeal.τ).loc KernelIdeal.main_arg1)) :
    ReferenceIdeal.R.aW m' c = KernelIdeal.K.aW m c :=
  (ReferenceIdeal.R.aW_arg m' c).trans (h.trans (KernelIdeal.K.aW_arg m c).symm)
theorem aS_eq (h : m' ((c.tc : Thread ReferenceIdeal.nD ReferenceIdeal.τ).loc ReferenceIdeal.main_arg2) = m ((c.tc : Thread KernelIdeal.nD KernelIdeal.τ).loc KernelIdeal.main_arg2)) :
    ReferenceIdeal.R.aS m' c = KernelIdeal.K.aS m c := by
  refine (ReferenceIdeal.R.aS_arg m' c).trans (Eq.trans ?_ (KernelIdeal.K.aS_arg m c).symm); rw [h]
theorem aR_eq (h : m' ((c.tc : Thread ReferenceIdeal.nD ReferenceIdeal.τ).loc ReferenceIdeal.main_arg3) = m ((c.tc : Thread KernelIdeal.nD KernelIdeal.τ).loc KernelIdeal.main_arg3)) :
    ReferenceIdeal.R.aR m' c = KernelIdeal.K.aR m c := by
  refine (ReferenceIdeal.R.aR_arg m' c).trans (Eq.trans ?_ (KernelIdeal.K.aR_arg m c).symm); rw [h]
theorem aG_eq (h : m' ((c.tc : Thread ReferenceIdeal.nD ReferenceIdeal.τ).loc ReferenceIdeal.main_arg4) = m ((c.tc : Thread KernelIdeal.nD KernelIdeal.τ).loc KernelIdeal.main_arg4)) :
    ReferenceIdeal.R.aG m' c = KernelIdeal.K.aG m c := by
  refine (ReferenceIdeal.R.aG_arg m' c).trans (Eq.trans ?_ (KernelIdeal.K.aG_arg m c).symm); rw [h]
end

section
open KernelIdeal.K
variable (m : (ℓ : Loc KernelIdeal.nD KernelIdeal.τ KernelIdeal.sig) → Buf (Elt Ideal) ℓ) (c : Dev KernelIdeal.nD)

/-- The reference's payloads at the kernel's arrays are the kernel's results. -/
theorem res5 : ReferenceIdeal.Gen.k0_pay8 (F := Ideal) (ReferenceIdeal.Gen.k0_pay7 (aX m c) (aW m c) (aS m c)) (aR m c) = G5 m c :=
  ext2 fun i j => (Spec.pay8_at _ _ _ _ i j).trans (G5_at m c i j).symm
theorem res6 : ReferenceIdeal.Gen.k0_pay5 (F := Ideal) (aX m c) = G6 m c :=
  ext2 fun i k => (Spec.pay5_at _ i k).trans (G6_at m c i k).symm
theorem res7 : ReferenceIdeal.Gen.k0_pay6 (F := Ideal) (aX m c) = G7 m c :=
  ext1 fun i => (Spec.pay6_at _ i).trans (G7_at m c i).symm
theorem res8 : ReferenceIdeal.Gen.k0_pay1 (F := Ideal) (Scalar.ofBits .f32 0x43E00000#32)
    (ReferenceIdeal.Gen.k0_pay11 (ReferenceIdeal.Gen.k0_pay7 (aX m c) (aW m c) (aS m c)) (aR m c) (aG m c)) = G8 m c :=
  ext2 fun i j => (Spec.pay1_at _ _ _ _ _ i j).trans (G8_at m c i j).symm
theorem res9 : ReferenceIdeal.Gen.k0_pay2 (F := Ideal)
    (ReferenceIdeal.Gen.k0_pay10 (ReferenceIdeal.Gen.k0_pay7 (aX m c) (aW m c) (aS m c)) (aR m c) (aG m c)) = G9 m c :=
  ext1 fun i => (Spec.pay2_at _ _ _ _ _ i).trans (G9_at m c i).symm
end

/-- The kernel and the reference end with the same five results. -/
theorem algebraic : Cert.algebraic_KernelIdeal_ReferenceIdeal (hKernelIdeal := Cert.KernelIdeal.Gen.facts) (hReferenceIdeal := Cert.ReferenceIdeal.Gen.facts) := by
  intro m g m' g' _ h
  refine ⟨KernelIdeal.K.G5 m, KernelIdeal.K.G6 m, KernelIdeal.K.G7 m, KernelIdeal.K.G8 m, KernelIdeal.K.G9 m,
    KernelIdeal.K.run_results m g, (θ_run _ _ _).mono (fun r q c => ?_) (ReferenceIdeal.R.run_blocks m' g')⟩
  obtain ⟨h0, h1, h2, h3, h4⟩ := h c
  obtain ⟨q0, q1, q2, q3, q4, k⟩ := q c
  rw [ReferenceIdeal.R.fin5, aX_eq m m' c h0, aW_eq m m' c h1, aS_eq m m' c h2, aR_eq m m' c h3] at q0
  rw [ReferenceIdeal.R.fin6, aX_eq m m' c h0] at q1
  rw [ReferenceIdeal.R.fin7, aX_eq m m' c h0] at q2
  rw [ReferenceIdeal.R.fin8, aX_eq m m' c h0, aW_eq m m' c h1, aS_eq m m' c h2, aR_eq m m' c h3, aG_eq m m' c h4] at q3
  rw [ReferenceIdeal.R.fin9, aX_eq m m' c h0, aW_eq m m' c h1, aS_eq m m' c h2, aR_eq m m' c h3, aG_eq m m' c h4] at q4
  exact ⟨q0.trans (res5 m c), q1.trans (res6 m c), q2.trans (res7 m c), q3.trans (res8 m c), q4.trans (res9 m c), k⟩

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Body
public import proofs.«01_k».proof.Proof.KI.Body
public import proofs.«01_k».proof.Proof.A.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.K.quiet m ρ, fun m ρ _ => Cert.KernelIdeal.K.quiet m ρ, fun m ρ _ => Cert.ReferenceIdeal.Gen.frame m ρ, trivial, Cert.Alg.algebraic⟩

end Cert.Proof

end
